-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_or_not_tiny [hPre_zero_or_not_tiny : Cert.Pre_zero_or_not_tiny.Facts] (m : (ℓ : Loc Cert.KernelIdeal.nD Cert.KernelIdeal.τ Cert.KernelIdeal.sig) → Buf (Elt Ideal) ℓ) : Prop :=
  ∀ c : Dev Cert.KernelIdeal.nD,
    (Cert.Pre_zero_or_not_tiny.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_or_not_tiny [hPre_zero_or_not_tiny : Cert.Pre_zero_or_not_tiny.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_or_not_tiny.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_zero_or_not_tiny [hKernelIdeal : Cert.KernelIdeal.Facts] [hPre_zero_or_not_tiny : Cert.Pre_zero_or_not_tiny.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_or_not_tiny m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_zero_or_not_tiny [hReferenceIdeal : Cert.ReferenceIdeal.Facts] [hPre_zero_or_not_tiny : Cert.Pre_zero_or_not_tiny.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_or_not_tiny m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_zero_or_not_tiny [hKernelIdeal : Cert.KernelIdeal.Facts] [hReferenceIdeal : Cert.ReferenceIdeal.Facts] [hPre_zero_or_not_tiny : Cert.Pre_zero_or_not_tiny.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_or_not_tiny m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_zero_or_not_tiny : Cert.Pre_zero_or_not_tiny.Facts),
    quiescent_Kernel (hKernel := hKernel)
    ∧ quiescent_KernelIdeal (hKernelIdeal := hKernelIdeal)
    ∧ quiescent_KernelIdeal_pre_zero_or_not_tiny (hKernelIdeal := hKernelIdeal) (hPre_zero_or_not_tiny := hPre_zero_or_not_tiny)
    ∧ quiescent_ReferenceIdeal (hReferenceIdeal := hReferenceIdeal)
    ∧ quiescent_ReferenceIdeal_pre_zero_or_not_tiny (hReferenceIdeal := hReferenceIdeal) (hPre_zero_or_not_tiny := hPre_zero_or_not_tiny)
    ∧ preserves_Kernel_KernelIdeal
    ∧ algebraic_KernelIdeal_ReferenceIdeal_pre_zero_or_not_tiny (hKernelIdeal := hKernelIdeal) (hReferenceIdeal := hReferenceIdeal) (hPre_zero_or_not_tiny := hPre_zero_or_not_tiny)
-- ==== Pre_zero_or_not_tiny.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)

variable [Facts]

def fn {F : FTy → Type} [FloatOps F] (main_arg0 : FVec F S8192x4096 .f32) (main_arg1 : FVec F S8192x4096 .f32) : IVec S8192x4096 1 :=
  let main_cst : FVec F S_ .f32 := constant S_ .f32 0x00000000#32
  let main_v0 : FVec F S8192x4096 .f32 := broadcastInDim S8192x4096 ![] bcast_S_S8192x4096 main_cst
  let main_v1 : IVec S8192x4096 1 := cmpf .oeq main_arg0 main_v0
  let main_cst_0 : FVec F S_ .f32 := constant S_ .f32 0x0DA24260#32
  let main_v2 : FVec F S8192x4096 .f32 := broadcastInDim S8192x4096 ![] bcast_S_S8192x4096 main_cst_0
  let main_v3 : IVec S8192x4096 1 := cmpf .oge main_arg0 main_v2
  let main_v4 : IVec S8192x4096 1 := ori main_v1 main_v3
  let main_cst_1 : FVec F S_ .f32 := constant S_ .f32 0x00000000#32
  let main_v5 : FVec F S8192x4096 .f32 := broadcastInDim S8192x4096 ![] bcast_S_S8192x4096 main_cst_1
  let main_v6 : IVec S8192x4096 1 := cmpf .oeq main_arg1 main_v5
  let main_cst_2 : FVec F S_ .f32 := constant S_ .f32 0x0DA24260#32
  let main_v7 : FVec F S8192x4096 .f32 := broadcastInDim S8192x4096 ![] bcast_S_S8192x4096 main_cst_2
  let main_v8 : IVec S8192x4096 1 := cmpf .oge main_arg1 main_v7
  let main_v9 : IVec S8192x4096 1 := ori main_v6 main_v8
  let main_v10 : IVec S8192x4096 1 := andi main_v4 main_v9
  main_v10
-- ==== Kernel.lean ====
abbrev S8192x4096 : Shape := ⟨2, ![8192, 4096]⟩
abbrev S1x1 : Shape := ⟨2, ![1, 1]⟩
abbrev S5x256x4096 : Shape := ⟨3, ![5, 256, 4096]⟩
abbrev S5 : Shape := ⟨1, ![5]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S8x1024 : Shape := ⟨2, ![8, 1024]⟩
abbrev S1x8x1024 : Shape := ⟨3, ![1, 8, 1024]⟩
abbrev S1x1x1 : Shape := ⟨3, ![1, 1, 1]⟩

abbrev nBuf : Space → Nat
  | .hbm => 4
  | .vmem => 3
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x1, .f32⟩
  | .hbm, ⟨3, _⟩ => ⟨S_, .f32⟩
  | .local _ .vmem, ⟨0, _⟩ => ⟨S1x1, .f32⟩
  | .local _ .vmem, ⟨1, _⟩ => ⟨S5x256x4096, .f32⟩
  | .local _ .vmem, ⟨2, _⟩ => ⟨S5x256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_41 : BitVec 32 := 0#32
  let c32_i32 : BitVec 32 := 32#32
  let v41 : BitVec 32 := Scalar.addi c0_i32_41 c32_i32
  let c1_i32_42 : BitVec 32 := 1#32
  ⟨c0_i32_41, v41, c1_i32_42⟩
def k0_off1 (k0_t1 : Fin k0_t1_loop.trips) : Fin 1 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  ![v51.toNat]
def k0_off2 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let c0_i32_47 : BitVec 32 := 0#32
  let c0_i32_48 : BitVec 32 := 0#32
  ![v51.toNat, 0, 0]
def k0_cond1 (k0_t1 : Fin k0_t1_loop.trips) : BitVec 1 :=
  let c0_i32_41 : BitVec 32 := 0#32
  let c1_i32_42 : BitVec 32 := 1#32
  let arg8 : BitVec 32 := Scf.iv c0_i32_41 c1_i32_42 k0_t1
  let c4_i32 : BitVec 32 := 4#32
  let v62 : BitVec 32 := Scalar.addi arg8 c4_i32
  let c32_i32_55 : BitVec 32 := 32#32
  let v63 : BitVec 1 := Scalar.cmpi .slt v62 c32_i32_55
  let v64 : BitVec 32 := Scalar.extui v63
  let c0_i32_56 : BitVec 32 := 0#32
  let v65 : BitVec 1 := Scalar.cmpi .ne v64 c0_i32_56
  v65

def k0_off3 (k0_t1 : Fin k0_t1_loop.trips) : Fin 1 → Nat :=
  let c0_i32_41 : BitVec 32 := 0#32
  let c1_i32_42 : BitVec 32 := 1#32
  let arg8 : BitVec 32 := Scf.iv c0_i32_41 c1_i32_42 k0_t1
  let c4_i32_1048 : BitVec 32 := 4#32
  let v3139 : BitVec 32 := Scalar.addi arg8 c4_i32_1048
  let c5_i32_1049 : BitVec 32 := 5#32
  let v3140 : BitVec 32 := Scalar.remsi v3139 c5_i32_1049
  ![v3140.toNat]
def k0_off4 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c4_i32_1048 : BitVec 32 := 4#32
  let v3139 : BitVec 32 := Scalar.addi arg8 c4_i32_1048
  let c5_i32_1049 : BitVec 32 := 5#32
  let v3140 : BitVec 32 := Scalar.remsi v3139 c5_i32_1049
  let c0_i32_1051 : BitVec 32 := 0#32
  let c0_i32_1052 : BitVec 32 := 0#32
  ![v3140.toNat, 0, 0]
def k0_off5 (k0_t1 : Fin k0_t1_loop.trips) : Fin 2 → Nat :=
  let c0_i32_41 : BitVec 32 := 0#32
  let c1_i32_42 : BitVec 32 := 1#32
  let arg8 : BitVec 32 := Scf.iv c0_i32_41 c1_i32_42 k0_t1
  let c4_i32_1047 : BitVec 32 := 4#32
  let v3138 : BitVec 32 := Scalar.addi arg8 c4_i32_1047
  let c256_i32_1050 : BitVec 32 := 256#32
  let v3141 : BitVec 32 := Scalar.muli v3138 c256_i32_1050
  let c0_i32_1053 : BitVec 32 := 0#32
  ![v3141.toNat, 0]
def k0_off6 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v66 : Index := Scalar.indexCast v51
  let c0_57 : Index := 0#32
  let c0_58 : Index := 0#32
  ![v66.toNat, 0, 0]
def k0_off7 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v90 : Index := Scalar.indexCast v51
  let c0_65 : Index := 0#32
  let c1024 : Index := 1024#32
  ![v90.toNat, 0, 1024]
def k0_off8 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v114 : Index := Scalar.indexCast v51
  let c0_72 : Index := 0#32
  let c2048 : Index := 2048#32
  ![v114.toNat, 0, 2048]
def k0_off9 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v138 : Index := Scalar.indexCast v51
  let c0_79 : Index := 0#32
  let c3072 : Index := 3072#32
  ![v138.toNat, 0, 3072]
def k0_off10 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v162 : Index := Scalar.indexCast v51
  let c8 : Index := 8#32
  let c0_86 : Index := 0#32
  ![v162.toNat, 8, 0]
def k0_off11 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v186 : Index := Scalar.indexCast v51
  let c8_93 : Index := 8#32
  let c1024_94 : Index := 1024#32
  ![v186.toNat, 8, 1024]
def k0_off12 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v210 : Index := Scalar.indexCast v51
  let c8_101 : Index := 8#32
  let c2048_102 : Index := 2048#32
  ![v210.toNat, 8, 2048]
def k0_off13 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v234 : Index := Scalar.indexCast v51
  let c8_109 : Index := 8#32
  let c3072_110 : Index := 3072#32
  ![v234.toNat, 8, 3072]
def k0_off14 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v258 : Index := Scalar.indexCast v51
  let c16 : Index := 16#32
  let c0_117 : Index := 0#32
  ![v258.toNat, 16, 0]
def k0_off15 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v282 : Index := Scalar.indexCast v51
  let c16_124 : Index := 16#32
  let c1024_125 : Index := 1024#32
  ![v282.toNat, 16, 1024]
def k0_off16 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v306 : Index := Scalar.indexCast v51
  let c16_132 : Index := 16#32
  let c2048_133 : Index := 2048#32
  ![v306.toNat, 16, 2048]
def k0_off17 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v330 : Index := Scalar.indexCast v51
  let c16_140 : Index := 16#32
  let c3072_141 : Index := 3072#32
  ![v330.toNat, 16, 3072]
def k0_off18 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v354 : Index := Scalar.indexCast v51
  let c24 : Index := 24#32
  let c0_148 : Index := 0#32
  ![v354.toNat, 24, 0]
def k0_off19 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v378 : Index := Scalar.indexCast v51
  let c24_155 : Index := 24#32
  let c1024_156 : Index := 1024#32
  ![v378.toNat, 24, 1024]
def k0_off20 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v402 : Index := Scalar.indexCast v51
  let c24_163 : Index := 24#32
  let c2048_164 : Index := 2048#32
  ![v402.toNat, 24, 2048]
def k0_off21 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v426 : Index := Scalar.indexCast v51
  let c24_171 : Index := 24#32
  let c3072_172 : Index := 3072#32
  ![v426.toNat, 24, 3072]
def k0_off22 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v450 : Index := Scalar.indexCast v51
  let c32 : Index := 32#32
  let c0_179 : Index := 0#32
  ![v450.toNat, 32, 0]
def k0_off23 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v474 : Index := Scalar.indexCast v51
  let c32_186 : Index := 32#32
  let c1024_187 : Index := 1024#32
  ![v474.toNat, 32, 1024]
def k0_off24 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v498 : Index := Scalar.indexCast v51
  let c32_194 : Index := 32#32
  let c2048_195 : Index := 2048#32
  ![v498.toNat, 32, 2048]
def k0_off25 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v522 : Index := Scalar.indexCast v51
  let c32_202 : Index := 32#32
  let c3072_203 : Index := 3072#32
  ![v522.toNat, 32, 3072]
def k0_off26 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v546 : Index := Scalar.indexCast v51
  let c40 : Index := 40#32
  let c0_210 : Index := 0#32
  ![v546.toNat, 40, 0]
def k0_off27 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v570 : Index := Scalar.indexCast v51
  let c40_217 : Index := 40#32
  let c1024_218 : Index := 1024#32
  ![v570.toNat, 40, 1024]
def k0_off28 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v594 : Index := Scalar.indexCast v51
  let c40_225 : Index := 40#32
  let c2048_226 : Index := 2048#32
  ![v594.toNat, 40, 2048]
def k0_off29 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v618 : Index := Scalar.indexCast v51
  let c40_233 : Index := 40#32
  let c3072_234 : Index := 3072#32
  ![v618.toNat, 40, 3072]
def k0_off30 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v642 : Index := Scalar.indexCast v51
  let c48 : Index := 48#32
  let c0_241 : Index := 0#32
  ![v642.toNat, 48, 0]
def k0_off31 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v666 : Index := Scalar.indexCast v51
  let c48_248 : Index := 48#32
  let c1024_249 : Index := 1024#32
  ![v666.toNat, 48, 1024]
def k0_off32 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v690 : Index := Scalar.indexCast v51
  let c48_256 : Index := 48#32
  let c2048_257 : Index := 2048#32
  ![v690.toNat, 48, 2048]
def k0_off33 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v714 : Index := Scalar.indexCast v51
  let c48_264 : Index := 48#32
  let c3072_265 : Index := 3072#32
  ![v714.toNat, 48, 3072]
def k0_off34 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v738 : Index := Scalar.indexCast v51
  let c56 : Index := 56#32
  let c0_272 : Index := 0#32
  ![v738.toNat, 56, 0]
def k0_off35 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v762 : Index := Scalar.indexCast v51
  let c56_279 : Index := 56#32
  let c1024_280 : Index := 1024#32
  ![v762.toNat, 56, 1024]
def k0_off36 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v786 : Index := Scalar.indexCast v51
  let c56_287 : Index := 56#32
  let c2048_288 : Index := 2048#32
  ![v786.toNat, 56, 2048]
def k0_off37 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v810 : Index := Scalar.indexCast v51
  let c56_295 : Index := 56#32
  let c3072_296 : Index := 3072#32
  ![v810.toNat, 56, 3072]
def k0_off38 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v834 : Index := Scalar.indexCast v51
  let c64 : Index := 64#32
  let c0_303 : Index := 0#32
  ![v834.toNat, 64, 0]
def k0_off39 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v858 : Index := Scalar.indexCast v51
  let c64_310 : Index := 64#32
  let c1024_311 : Index := 1024#32
  ![v858.toNat, 64, 1024]
def k0_off40 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v882 : Index := Scalar.indexCast v51
  let c64_318 : Index := 64#32
  let c2048_319 : Index := 2048#32
  ![v882.toNat, 64, 2048]
def k0_off41 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v906 : Index := Scalar.indexCast v51
  let c64_326 : Index := 64#32
  let c3072_327 : Index := 3072#32
  ![v906.toNat, 64, 3072]
def k0_off42 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v930 : Index := Scalar.indexCast v51
  let c72 : Index := 72#32
  let c0_334 : Index := 0#32
  ![v930.toNat, 72, 0]
def k0_off43 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v954 : Index := Scalar.indexCast v51
  let c72_341 : Index := 72#32
  let c1024_342 : Index := 1024#32
  ![v954.toNat, 72, 1024]
def k0_off44 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v978 : Index := Scalar.indexCast v51
  let c72_349 : Index := 72#32
  let c2048_350 : Index := 2048#32
  ![v978.toNat, 72, 2048]
def k0_off45 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1002 : Index := Scalar.indexCast v51
  let c72_357 : Index := 72#32
  let c3072_358 : Index := 3072#32
  ![v1002.toNat, 72, 3072]
def k0_off46 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1026 : Index := Scalar.indexCast v51
  let c80 : Index := 80#32
  let c0_365 : Index := 0#32
  ![v1026.toNat, 80, 0]
def k0_off47 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1050 : Index := Scalar.indexCast v51
  let c80_372 : Index := 80#32
  let c1024_373 : Index := 1024#32
  ![v1050.toNat, 80, 1024]
def k0_off48 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1074 : Index := Scalar.indexCast v51
  let c80_380 : Index := 80#32
  let c2048_381 : Index := 2048#32
  ![v1074.toNat, 80, 2048]
def k0_off49 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1098 : Index := Scalar.indexCast v51
  let c80_388 : Index := 80#32
  let c3072_389 : Index := 3072#32
  ![v1098.toNat, 80, 3072]
def k0_off50 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1122 : Index := Scalar.indexCast v51
  let c88 : Index := 88#32
  let c0_396 : Index := 0#32
  ![v1122.toNat, 88, 0]
def k0_off51 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1146 : Index := Scalar.indexCast v51
  let c88_403 : Index := 88#32
  let c1024_404 : Index := 1024#32
  ![v1146.toNat, 88, 1024]
def k0_off52 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1170 : Index := Scalar.indexCast v51
  let c88_411 : Index := 88#32
  let c2048_412 : Index := 2048#32
  ![v1170.toNat, 88, 2048]
def k0_off53 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1194 : Index := Scalar.indexCast v51
  let c88_419 : Index := 88#32
  let c3072_420 : Index := 3072#32
  ![v1194.toNat, 88, 3072]
def k0_off54 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1218 : Index := Scalar.indexCast v51
  let c96 : Index := 96#32
  let c0_427 : Index := 0#32
  ![v1218.toNat, 96, 0]
def k0_off55 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1242 : Index := Scalar.indexCast v51
  let c96_434 : Index := 96#32
  let c1024_435 : Index := 1024#32
  ![v1242.toNat, 96, 1024]
def k0_off56 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1266 : Index := Scalar.indexCast v51
  let c96_442 : Index := 96#32
  let c2048_443 : Index := 2048#32
  ![v1266.toNat, 96, 2048]
def k0_off57 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1290 : Index := Scalar.indexCast v51
  let c96_450 : Index := 96#32
  let c3072_451 : Index := 3072#32
  ![v1290.toNat, 96, 3072]
def k0_off58 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1314 : Index := Scalar.indexCast v51
  let c104 : Index := 104#32
  let c0_458 : Index := 0#32
  ![v1314.toNat, 104, 0]
def k0_off59 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1338 : Index := Scalar.indexCast v51
  let c104_465 : Index := 104#32
  let c1024_466 : Index := 1024#32
  ![v1338.toNat, 104, 1024]
def k0_off60 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1362 : Index := Scalar.indexCast v51
  let c104_473 : Index := 104#32
  let c2048_474 : Index := 2048#32
  ![v1362.toNat, 104, 2048]
def k0_off61 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1386 : Index := Scalar.indexCast v51
  let c104_481 : Index := 104#32
  let c3072_482 : Index := 3072#32
  ![v1386.toNat, 104, 3072]
def k0_off62 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1410 : Index := Scalar.indexCast v51
  let c112 : Index := 112#32
  let c0_489 : Index := 0#32
  ![v1410.toNat, 112, 0]
def k0_off63 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1434 : Index := Scalar.indexCast v51
  let c112_496 : Index := 112#32
  let c1024_497 : Index := 1024#32
  ![v1434.toNat, 112, 1024]
def k0_off64 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1458 : Index := Scalar.indexCast v51
  let c112_504 : Index := 112#32
  let c2048_505 : Index := 2048#32
  ![v1458.toNat, 112, 2048]
def k0_off65 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1482 : Index := Scalar.indexCast v51
  let c112_512 : Index := 112#32
  let c3072_513 : Index := 3072#32
  ![v1482.toNat, 112, 3072]
def k0_off66 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1506 : Index := Scalar.indexCast v51
  let c120 : Index := 120#32
  let c0_520 : Index := 0#32
  ![v1506.toNat, 120, 0]
def k0_off67 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1530 : Index := Scalar.indexCast v51
  let c120_527 : Index := 120#32
  let c1024_528 : Index := 1024#32
  ![v1530.toNat, 120, 1024]
def k0_off68 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1554 : Index := Scalar.indexCast v51
  let c120_535 : Index := 120#32
  let c2048_536 : Index := 2048#32
  ![v1554.toNat, 120, 2048]
def k0_off69 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1578 : Index := Scalar.indexCast v51
  let c120_543 : Index := 120#32
  let c3072_544 : Index := 3072#32
  ![v1578.toNat, 120, 3072]
def k0_off70 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1602 : Index := Scalar.indexCast v51
  let c128 : Index := 128#32
  let c0_551 : Index := 0#32
  ![v1602.toNat, 128, 0]
def k0_off71 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1626 : Index := Scalar.indexCast v51
  let c128_558 : Index := 128#32
  let c1024_559 : Index := 1024#32
  ![v1626.toNat, 128, 1024]
def k0_off72 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1650 : Index := Scalar.indexCast v51
  let c128_566 : Index := 128#32
  let c2048_567 : Index := 2048#32
  ![v1650.toNat, 128, 2048]
def k0_off73 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1674 : Index := Scalar.indexCast v51
  let c128_574 : Index := 128#32
  let c3072_575 : Index := 3072#32
  ![v1674.toNat, 128, 3072]
def k0_off74 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1698 : Index := Scalar.indexCast v51
  let c136 : Index := 136#32
  let c0_582 : Index := 0#32
  ![v1698.toNat, 136, 0]
def k0_off75 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1722 : Index := Scalar.indexCast v51
  let c136_589 : Index := 136#32
  let c1024_590 : Index := 1024#32
  ![v1722.toNat, 136, 1024]
def k0_off76 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1746 : Index := Scalar.indexCast v51
  let c136_597 : Index := 136#32
  let c2048_598 : Index := 2048#32
  ![v1746.toNat, 136, 2048]
def k0_off77 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1770 : Index := Scalar.indexCast v51
  let c136_605 : Index := 136#32
  let c3072_606 : Index := 3072#32
  ![v1770.toNat, 136, 3072]
def k0_off78 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1794 : Index := Scalar.indexCast v51
  let c144 : Index := 144#32
  let c0_613 : Index := 0#32
  ![v1794.toNat, 144, 0]
def k0_off79 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1818 : Index := Scalar.indexCast v51
  let c144_620 : Index := 144#32
  let c1024_621 : Index := 1024#32
  ![v1818.toNat, 144, 1024]
def k0_off80 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1842 : Index := Scalar.indexCast v51
  let c144_628 : Index := 144#32
  let c2048_629 : Index := 2048#32
  ![v1842.toNat, 144, 2048]
def k0_off81 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1866 : Index := Scalar.indexCast v51
  let c144_636 : Index := 144#32
  let c3072_637 : Index := 3072#32
  ![v1866.toNat, 144, 3072]
def k0_off82 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1890 : Index := Scalar.indexCast v51
  let c152 : Index := 152#32
  let c0_644 : Index := 0#32
  ![v1890.toNat, 152, 0]
def k0_off83 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1914 : Index := Scalar.indexCast v51
  let c152_651 : Index := 152#32
  let c1024_652 : Index := 1024#32
  ![v1914.toNat, 152, 1024]
def k0_off84 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1938 : Index := Scalar.indexCast v51
  let c152_659 : Index := 152#32
  let c2048_660 : Index := 2048#32
  ![v1938.toNat, 152, 2048]
def k0_off85 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1962 : Index := Scalar.indexCast v51
  let c152_667 : Index := 152#32
  let c3072_668 : Index := 3072#32
  ![v1962.toNat, 152, 3072]
def k0_off86 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v1986 : Index := Scalar.indexCast v51
  let c160 : Index := 160#32
  let c0_675 : Index := 0#32
  ![v1986.toNat, 160, 0]
def k0_off87 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2010 : Index := Scalar.indexCast v51
  let c160_682 : Index := 160#32
  let c1024_683 : Index := 1024#32
  ![v2010.toNat, 160, 1024]
def k0_off88 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2034 : Index := Scalar.indexCast v51
  let c160_690 : Index := 160#32
  let c2048_691 : Index := 2048#32
  ![v2034.toNat, 160, 2048]
def k0_off89 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2058 : Index := Scalar.indexCast v51
  let c160_698 : Index := 160#32
  let c3072_699 : Index := 3072#32
  ![v2058.toNat, 160, 3072]
def k0_off90 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2082 : Index := Scalar.indexCast v51
  let c168 : Index := 168#32
  let c0_706 : Index := 0#32
  ![v2082.toNat, 168, 0]
def k0_off91 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2106 : Index := Scalar.indexCast v51
  let c168_713 : Index := 168#32
  let c1024_714 : Index := 1024#32
  ![v2106.toNat, 168, 1024]
def k0_off92 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2130 : Index := Scalar.indexCast v51
  let c168_721 : Index := 168#32
  let c2048_722 : Index := 2048#32
  ![v2130.toNat, 168, 2048]
def k0_off93 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2154 : Index := Scalar.indexCast v51
  let c168_729 : Index := 168#32
  let c3072_730 : Index := 3072#32
  ![v2154.toNat, 168, 3072]
def k0_off94 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2178 : Index := Scalar.indexCast v51
  let c176 : Index := 176#32
  let c0_737 : Index := 0#32
  ![v2178.toNat, 176, 0]
def k0_off95 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2202 : Index := Scalar.indexCast v51
  let c176_744 : Index := 176#32
  let c1024_745 : Index := 1024#32
  ![v2202.toNat, 176, 1024]
def k0_off96 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2226 : Index := Scalar.indexCast v51
  let c176_752 : Index := 176#32
  let c2048_753 : Index := 2048#32
  ![v2226.toNat, 176, 2048]
def k0_off97 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2250 : Index := Scalar.indexCast v51
  let c176_760 : Index := 176#32
  let c3072_761 : Index := 3072#32
  ![v2250.toNat, 176, 3072]
def k0_off98 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2274 : Index := Scalar.indexCast v51
  let c184 : Index := 184#32
  let c0_768 : Index := 0#32
  ![v2274.toNat, 184, 0]
def k0_off99 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2298 : Index := Scalar.indexCast v51
  let c184_775 : Index := 184#32
  let c1024_776 : Index := 1024#32
  ![v2298.toNat, 184, 1024]
def k0_off100 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2322 : Index := Scalar.indexCast v51
  let c184_783 : Index := 184#32
  let c2048_784 : Index := 2048#32
  ![v2322.toNat, 184, 2048]
def k0_off101 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2346 : Index := Scalar.indexCast v51
  let c184_791 : Index := 184#32
  let c3072_792 : Index := 3072#32
  ![v2346.toNat, 184, 3072]
def k0_off102 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2370 : Index := Scalar.indexCast v51
  let c192 : Index := 192#32
  let c0_799 : Index := 0#32
  ![v2370.toNat, 192, 0]
def k0_off103 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2394 : Index := Scalar.indexCast v51
  let c192_806 : Index := 192#32
  let c1024_807 : Index := 1024#32
  ![v2394.toNat, 192, 1024]
def k0_off104 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2418 : Index := Scalar.indexCast v51
  let c192_814 : Index := 192#32
  let c2048_815 : Index := 2048#32
  ![v2418.toNat, 192, 2048]
def k0_off105 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2442 : Index := Scalar.indexCast v51
  let c192_822 : Index := 192#32
  let c3072_823 : Index := 3072#32
  ![v2442.toNat, 192, 3072]
def k0_off106 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2466 : Index := Scalar.indexCast v51
  let c200 : Index := 200#32
  let c0_830 : Index := 0#32
  ![v2466.toNat, 200, 0]
def k0_off107 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2490 : Index := Scalar.indexCast v51
  let c200_837 : Index := 200#32
  let c1024_838 : Index := 1024#32
  ![v2490.toNat, 200, 1024]
def k0_off108 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2514 : Index := Scalar.indexCast v51
  let c200_845 : Index := 200#32
  let c2048_846 : Index := 2048#32
  ![v2514.toNat, 200, 2048]
def k0_off109 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2538 : Index := Scalar.indexCast v51
  let c200_853 : Index := 200#32
  let c3072_854 : Index := 3072#32
  ![v2538.toNat, 200, 3072]
def k0_off110 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2562 : Index := Scalar.indexCast v51
  let c208 : Index := 208#32
  let c0_861 : Index := 0#32
  ![v2562.toNat, 208, 0]
def k0_off111 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2586 : Index := Scalar.indexCast v51
  let c208_868 : Index := 208#32
  let c1024_869 : Index := 1024#32
  ![v2586.toNat, 208, 1024]
def k0_off112 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2610 : Index := Scalar.indexCast v51
  let c208_876 : Index := 208#32
  let c2048_877 : Index := 2048#32
  ![v2610.toNat, 208, 2048]
def k0_off113 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2634 : Index := Scalar.indexCast v51
  let c208_884 : Index := 208#32
  let c3072_885 : Index := 3072#32
  ![v2634.toNat, 208, 3072]
def k0_off114 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2658 : Index := Scalar.indexCast v51
  let c216 : Index := 216#32
  let c0_892 : Index := 0#32
  ![v2658.toNat, 216, 0]
def k0_off115 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2682 : Index := Scalar.indexCast v51
  let c216_899 : Index := 216#32
  let c1024_900 : Index := 1024#32
  ![v2682.toNat, 216, 1024]
def k0_off116 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2706 : Index := Scalar.indexCast v51
  let c216_907 : Index := 216#32
  let c2048_908 : Index := 2048#32
  ![v2706.toNat, 216, 2048]
def k0_off117 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2730 : Index := Scalar.indexCast v51
  let c216_915 : Index := 216#32
  let c3072_916 : Index := 3072#32
  ![v2730.toNat, 216, 3072]
def k0_off118 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2754 : Index := Scalar.indexCast v51
  let c224 : Index := 224#32
  let c0_923 : Index := 0#32
  ![v2754.toNat, 224, 0]
def k0_off119 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2778 : Index := Scalar.indexCast v51
  let c224_930 : Index := 224#32
  let c1024_931 : Index := 1024#32
  ![v2778.toNat, 224, 1024]
def k0_off120 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2802 : Index := Scalar.indexCast v51
  let c224_938 : Index := 224#32
  let c2048_939 : Index := 2048#32
  ![v2802.toNat, 224, 2048]
def k0_off121 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2826 : Index := Scalar.indexCast v51
  let c224_946 : Index := 224#32
  let c3072_947 : Index := 3072#32
  ![v2826.toNat, 224, 3072]
def k0_off122 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2850 : Index := Scalar.indexCast v51
  let c232 : Index := 232#32
  let c0_954 : Index := 0#32
  ![v2850.toNat, 232, 0]
def k0_off123 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2874 : Index := Scalar.indexCast v51
  let c232_961 : Index := 232#32
  let c1024_962 : Index := 1024#32
  ![v2874.toNat, 232, 1024]
def k0_off124 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2898 : Index := Scalar.indexCast v51
  let c232_969 : Index := 232#32
  let c2048_970 : Index := 2048#32
  ![v2898.toNat, 232, 2048]
def k0_off125 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2922 : Index := Scalar.indexCast v51
  let c232_977 : Index := 232#32
  let c3072_978 : Index := 3072#32
  ![v2922.toNat, 232, 3072]
def k0_off126 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2946 : Index := Scalar.indexCast v51
  let c240 : Index := 240#32
  let c0_985 : Index := 0#32
  ![v2946.toNat, 240, 0]
def k0_off127 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2970 : Index := Scalar.indexCast v51
  let c240_992 : Index := 240#32
  let c1024_993 : Index := 1024#32
  ![v2970.toNat, 240, 1024]
def k0_off128 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v2994 : Index := Scalar.indexCast v51
  let c240_1000 : Index := 240#32
  let c2048_1001 : Index := 2048#32
  ![v2994.toNat, 240, 2048]
def k0_off129 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v3018 : Index := Scalar.indexCast v51
  let c240_1008 : Index := 240#32
  let c3072_1009 : Index := 3072#32
  ![v3018.toNat, 240, 3072]
def k0_off130 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v3042 : Index := Scalar.indexCast v51
  let c248 : Index := 248#32
  let c0_1016 : Index := 0#32
  ![v3042.toNat, 248, 0]
def k0_off131 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v3066 : Index := Scalar.indexCast v51
  let c248_1023 : Index := 248#32
  let c1024_1024 : Index := 1024#32
  ![v3066.toNat, 248, 1024]
def k0_off132 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v3090 : Index := Scalar.indexCast v51
  let c248_1031 : Index := 248#32
  let c2048_1032 : Index := 2048#32
  ![v3090.toNat, 248, 2048]
def k0_off133 (k0_t1 : Fin k0_t1_loop.trips) : Fin 3 → Nat :=
  let c0_i32_41 : BitVec 32 := 0#32
  let c1_i32_42 : BitVec 32 := 1#32
  let arg8 : BitVec 32 := Scf.iv c0_i32_41 c1_i32_42 k0_t1
  let c5_i32 : BitVec 32 := 5#32
  let v51 : BitVec 32 := Scalar.remsi arg8 c5_i32
  let v3114 : Index := Scalar.indexCast v51
  let c248_1039 : Index := 248#32
  let c3072_1040 : Index := 3072#32
  ![v3114.toNat, 248, 3072]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x4096 : Shape := ⟨2, ![8192, 4096]⟩
abbrev S_ : Shape := ⟨0, ![]⟩
abbrev S33554432 : Shape := ⟨1, ![33554432]⟩

abbrev nBuf : Space → Nat
  | .hbm => 71
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S33554432, .f32⟩
  | .hbm, ⟨7, _⟩ => ⟨S33554432, .f32⟩
  | .hbm, ⟨8, _⟩ => ⟨S_, .f32⟩
  | .hbm, ⟨9, _⟩ => ⟨S33554432, .f32⟩
  | .hbm, ⟨10, _⟩ => ⟨S33554432, .i1⟩
  | .hbm, ⟨11, _⟩ => ⟨S_, .f32⟩
  | .hbm, ⟨12, _⟩ => ⟨S33554432, .f32⟩
  | .hbm, ⟨13, _⟩ => ⟨S33554432, .i1⟩
  | .hbm, ⟨14, _⟩ => ⟨S33554432, .i1⟩
  | .hbm, ⟨15, _⟩ => ⟨S_, .f32⟩
  | .hbm, ⟨16, _⟩ => ⟨S_, .f32⟩
  | .hbm, ⟨17, _⟩ => ⟨S33554432, .f32⟩
  | .hbm, ⟨18, _⟩ => ⟨S33554432, .f32⟩
  | .hbm, ⟨19, _⟩ => ⟨S33554432, .f32⟩
  | .hbm, ⟨20, _⟩ => ⟨S_, .f32⟩
  | .hbm, ⟨21, _⟩ => ⟨S_, .f32⟩
  | .hbm, ⟨22, _⟩ => ⟨S33554432, .f32⟩
  | .hbm, ⟨23, _⟩ => ⟨S33554432, .f32⟩
  | .hbm, ⟨24, _⟩ => ⟨S33554432, .f32⟩
  | .hbm, ⟨25, _⟩ => ⟨S33554432, .f32⟩
  | .hbm, ⟨26, _⟩ => ⟨S_, .f32⟩
  | .hbm, ⟨27, _⟩ => ⟨S33554432, .f32⟩
  | .hbm, ⟨28, _⟩ => ⟨S33554432, .f32⟩
  | .hbm, ⟨29, _⟩ => ⟨S_, .f32⟩
  | .hbm, ⟨30, _⟩ => ⟨S_, .f32⟩
  | .hbm, ⟨31, _⟩ => ⟨S33554432, .f32⟩
  | .hbm, ⟨32, _⟩ => ⟨S33554432, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S33554432, .f32⟩
  | .hbm, ⟨38, _⟩ => ⟨S33554432, .f32⟩
  | .hbm, ⟨39, _⟩ => ⟨S_, .f32⟩
  | .hbm, ⟨40, _⟩ => ⟨S33554432, .f32⟩
  | .hbm, ⟨41, _⟩ => ⟨S33554432, .i1⟩
  | .hbm, ⟨42, _⟩ => ⟨S_, .f32⟩
  | .hbm, ⟨43, _⟩ => ⟨S33554432, .f32⟩
  | .hbm, ⟨44, _⟩ => ⟨S33554432, .i1⟩
  | .hbm, ⟨45, _⟩ => ⟨S33554432, .i1⟩
  | .hbm, ⟨46, _⟩ => ⟨S_, .f32⟩
  | .hbm, ⟨47, _⟩ => ⟨S_, .f32⟩
  | .hbm, ⟨48, _⟩ => ⟨S33554432, .f32⟩
  | .hbm, ⟨49, _⟩ => ⟨S33554432, .f32⟩
  | .hbm, ⟨50, _⟩ => ⟨S33554432, .f32⟩
  | .hbm, ⟨51, _⟩ => ⟨S_, .f32⟩
  | .hbm, ⟨52, _⟩ => ⟨S_, .f32⟩
  | .hbm, ⟨53, _⟩ => ⟨S33554432, .f32⟩
  | .hbm, ⟨54, _⟩ => ⟨S33554432, .f32⟩
  | .hbm, ⟨55, _⟩ => ⟨S33554432, .f32⟩
  | .hbm, ⟨56, _⟩ => ⟨S33554432, .f32⟩
  | .hbm, ⟨57, _⟩ => ⟨S_, .f32⟩
  | .hbm, ⟨58, _⟩ => ⟨S33554432, .f32⟩
  | .hbm, ⟨59, _⟩ => ⟨S33554432, .f32⟩
  | .hbm, ⟨60, _⟩ => ⟨S_, .f32⟩
  | .hbm, ⟨61, _⟩ => ⟨S_, .f32⟩
  | .hbm, ⟨62, _⟩ => ⟨S33554432, .f32⟩
  | .hbm, ⟨63, _⟩ => ⟨S33554432, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_call2_v0 : Ref sig .tc := ⟨.hbm, 30, rfl⟩
abbrev main_call2_v1 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_call3_v0 : Ref sig .tc := ⟨.hbm, 47, rfl⟩
abbrev main_call3_v1 : Ref sig .tc := ⟨.hbm, 48, rfl⟩
abbrev main_v27 : Ref sig .tc := ⟨.hbm, 49, rfl⟩
abbrev main_v28 : Ref sig .tc := ⟨.hbm, 50, rfl⟩
abbrev main_cst_11 : Ref sig .tc := ⟨.hbm, 51, rfl⟩
abbrev main_call4_v0 : Ref sig .tc := ⟨.hbm, 52, rfl⟩
abbrev main_call4_v1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_12 : Ref sig .tc := ⟨.hbm, 57, rfl⟩
abbrev main_v32 : Ref sig .tc := ⟨.hbm, 58, rfl⟩
abbrev main_v33 : Ref sig .tc := ⟨.hbm, 59, rfl⟩
abbrev main_cst_13 : Ref sig .tc := ⟨.hbm, 60, rfl⟩
abbrev main_call5_v0 : Ref sig .tc := ⟨.hbm, 61, rfl⟩
abbrev main_call5_v1 : Ref sig .tc := ⟨.hbm, 62, rfl⟩
abbrev main_v34 : Ref sig .tc := ⟨.hbm, 63, rfl⟩
abbrev main_cst_14 : Ref sig .tc := ⟨.hbm, 64, rfl⟩
abbrev main_v35 : Ref sig .tc := ⟨.hbm, 65, rfl⟩
abbrev main_cst_15 : Ref sig .tc := ⟨.hbm, 66, rfl⟩
abbrev main_v36 : Ref sig .tc := ⟨.hbm, 67, rfl⟩
abbrev main_v37 : Ref sig .tc := ⟨.hbm, 68, rfl⟩
abbrev main_cst_16 : Ref sig .tc := ⟨.hbm, 69, rfl⟩
abbrev main_v38 : Ref sig .tc := ⟨.hbm, 70, rfl⟩

abbrev nD : Nat := 1
abbrev τ : Topo := Topo.v7x

variable {F : FTy → Type} [FloatOps F]
-- ==== Proof.Divergence.lean ====
/-
  The arithmetic of the divergence over the extended reals, with no program in sight: one pair of entries' contribution as
  the kernel writes it and as the reference writes it, a factor taken out of a sum, and the entries of an 8192 by 4096
  array summed tile by tile.
-/
module

public import Idealize.ShloMosaic.PureOps.Ideal.Laws
public import Idealize.ShloMosaic.Lib.IdealHost

@[expose] public section

noncomputable section

namespace Cert.Jsd

open Idealize.ShloMosaic

/-- One pair's contribution as the kernel adds it up: each logarithm floored at `t`, the halving of the mean as ln 2. -/
def fused (t w p : EReal) : EReal :=
  w * Ideal.log (max w t) + p * Ideal.log (max p t) + (w + p) * (((Real.log 2 : ℝ) : EReal) - Ideal.log (max (w + p) t))

/-- One entry's contribution against the mean `m` as the reference writes it, in natural logarithms: only where both are
    positive. -/
def against (x m : EReal) : EReal := if 0 < x ∧ 0 < m then x * Ideal.log (Ideal.div x m) else 0

theorem log_pos_coe {r : ℝ} (h : 0 < r) : Ideal.log (r : EReal) = (Real.log r : EReal) := by
  rw [Ideal.log_coe, if_neg (not_le.mpr h)]

/-- An entry zero or at least `t > 0` is zero, a positive real not below `t`, or infinite. -/
theorem entry_cases {t : ℝ} {x : EReal} (h : x = 0 ∨ (t : EReal) ≤ x) : x = 0 ∨ x = ⊤ ∨ ∃ r : ℝ, x = (r : EReal) ∧ t ≤ r := by
  rcases h with h | h
  · exact .inl h
  · induction x with
    | bot => exact absurd h (by simp)
    | top => exact .inr (.inl rfl)
    | coe r => exact .inr (.inr ⟨r, rfl, EReal.coe_le_coe_iff.mp h⟩)

/-- Half the sum of two reals. -/
theorem half_coe (x y : ℝ) : ((1 / 2 : ℝ) : EReal) * ((x : EReal) + (y : EReal)) = (((x + y) / 2 : ℝ) : EReal) := by
  rw [← EReal.coe_add, ← EReal.coe_mul]; congr 1; ring

/-- Against a positive mean a positive real contributes `x (log x - log m)`. -/
theorem against_coe {x m : ℝ} (hx : 0 < x) (hm : 0 < m) : against x m = ((x * (Real.log x - Real.log m) : ℝ) : EReal) := by
  rw [against, if_pos ⟨EReal.coe_pos.mpr hx, EReal.coe_pos.mpr hm⟩, Ideal.div, if_neg (by exact_mod_cast hm.ne'), ← EReal.coe_inv,
    ← EReal.coe_mul, ← div_eq_mul_inv, log_pos_coe (div_pos hx hm), ← EReal.coe_mul, Real.log_div hx.ne' hm.ne']

theorem against_zero (m : EReal) : against 0 m = 0 := by
  rw [against, if_neg (fun h => lt_irrefl _ h.1)]

/-- Against an infinite mean anything positive contributes minus infinity. -/
theorem against_top {x : EReal} (hx : 0 < x) : against x ⊤ = ⊥ := by
  rw [against, if_pos ⟨hx, by simp⟩, Ideal.div, if_neg (by simp), EReal.inv_top, mul_zero]
  rw [show Ideal.log 0 = ⊥ from by rw [← EReal.coe_zero, Ideal.log_coe, if_pos le_rfl], EReal.mul_bot_of_pos hx]

theorem half_top {x : EReal} (hx : 0 ≤ x) : ((1 / 2 : ℝ) : EReal) * (⊤ + x) = ⊤ ∧ ((1 / 2 : ℝ) : EReal) * (x + ⊤) = ⊤ := by
  have hb : x ≠ ⊥ := fun h => by rw [h] at hx; exact absurd hx (by simp)
  rw [EReal.top_add_of_ne_bot hb, EReal.add_top_of_ne_bot hb]
  exact ⟨EReal.coe_mul_top_of_pos (by norm_num), EReal.coe_mul_top_of_pos (by norm_num)⟩

/-- With an infinite sum the kernel's form is minus infinity. -/
theorem fused_top {t w p : EReal} (h : w + p = ⊤) : fused t w p = ⊥ := by
  unfold fused
  rw [h, max_eq_left le_top, Ideal.log_top, sub_eq_add_neg, EReal.neg_top, EReal.add_bot, EReal.top_mul_bot, EReal.add_bot]

/-- The two forms agree on entries that are zero or not below the floor. -/
theorem fused_eq {t : ℝ} (ht : 0 < t) {w p : EReal} (hw : w = 0 ∨ (t : EReal) ≤ w) (hp : p = 0 ∨ (t : EReal) ≤ p) :
    fused t w p = against w (((1 / 2 : ℝ) : EReal) * (w + p)) + against p (((1 / 2 : ℝ) : EReal) * (w + p)) := by
  have pos : ∀ x : EReal, (x = 0 ∨ (t : EReal) ≤ x) → 0 ≤ x := fun x h => by
    rcases h with h | h
    · exact h.ge
    · exact (EReal.coe_nonneg.mpr ht.le).trans h
  rcases entry_cases hw with rfl | rfl | ⟨a, rfl, ha⟩
  · rcases entry_cases hp with rfl | rfl | ⟨b, rfl, hb⟩
    · simp [fused, against_zero]
    · rw [fused_top (by simp), (half_top le_rfl).2, against_zero, against_top (by simp), zero_add]
    · have hb0 : 0 < b := ht.trans_le hb
      rw [against_zero, zero_add, ← EReal.coe_zero, half_coe, against_coe hb0 (by linarith)]
      unfold fused
      rw [← EReal.coe_add, zero_add, max_eq_left (EReal.coe_le_coe_iff.mpr hb), log_pos_coe hb0,
        max_eq_right (EReal.coe_le_coe_iff.mpr ht.le), log_pos_coe ht]
      rw [← EReal.coe_sub, ← EReal.coe_mul, ← EReal.coe_mul, ← EReal.coe_mul, ← EReal.coe_add, ← EReal.coe_add,
        Real.log_div hb0.ne' two_ne_zero]
      congr 1; ring
  · rw [fused_top (EReal.top_add_of_ne_bot (fun h => by have := pos p hp; rw [h] at this; exact absurd this (by simp))),
      (half_top (pos p hp)).1, against_top (by simp), EReal.bot_add]
  · have ha0 : 0 < a := ht.trans_le ha
    rcases entry_cases hp with rfl | rfl | ⟨b, rfl, hb⟩
    · rw [against_zero, add_zero, ← EReal.coe_zero, half_coe, against_coe ha0 (by linarith)]
      unfold fused
      rw [← EReal.coe_add, add_zero, max_eq_left (EReal.coe_le_coe_iff.mpr ha), log_pos_coe ha0,
        max_eq_right (EReal.coe_le_coe_iff.mpr ht.le), log_pos_coe ht]
      rw [← EReal.coe_sub, ← EReal.coe_mul, ← EReal.coe_mul, ← EReal.coe_mul, ← EReal.coe_add, ← EReal.coe_add,
        Real.log_div ha0.ne' two_ne_zero]
      congr 1; ring
    · rw [fused_top (EReal.add_top_of_ne_bot (EReal.coe_ne_bot _)), (half_top (EReal.coe_nonneg.mpr ha0.le)).2,
        against_top (EReal.coe_pos.mpr ha0), EReal.bot_add]
    · have hb0 : 0 < b := ht.trans_le hb
      rw [half_coe, against_coe ha0 (by linarith), against_coe hb0 (by linarith)]
      unfold fused
      rw [← EReal.coe_add, max_eq_left (EReal.coe_le_coe_iff.mpr ha), max_eq_left (EReal.coe_le_coe_iff.mpr hb),
        max_eq_left (EReal.coe_le_coe_iff.mpr (by linarith : t ≤ a + b)), log_pos_coe ha0, log_pos_coe hb0,
        log_pos_coe (by linarith : 0 < a + b)]
      rw [← EReal.coe_sub, ← EReal.coe_mul, ← EReal.coe_mul, ← EReal.coe_mul, ← EReal.coe_add, ← EReal.coe_add, ← EReal.coe_add,
        Real.log_div (by linarith : a + b ≠ 0) two_ne_zero]
      congr 1; ring

/-- A real factor that is not negative comes out of a sum of extended reals. -/
theorem sum_mul_coe {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-! ## The constants -/

/-- The reference's factor from natural logarithms to bits, as printed. -/
def toBits : ℝ := 12102203 / 8388608
/-- The kernel's one factor on the total: to bits, halved, and per row. -/
def scale : ℝ := 12102203 / 137438953472
/-- The kernel's floor under each logarithm, as printed. -/
def floor : ℝ := 10633824 / 2 ^ 123

theorem toBits_nonneg : 0 ≤ toBits := by unfold toBits; norm_num
theorem scale_nonneg : 0 ≤ scale := by unfold scale; norm_num
theorem floor_pos : 0 < floor := by unfold floor; positivity

theorem ofBits_toBits : Ideal.ofBits .f32 0x3FB8AA3B#32 = ((toBits : ℝ) : EReal) := by
  unfold toBits; simp [Ideal.ofBits, Ideal.ieee, -EReal.coe_mul]; norm_num
theorem ofBits_scale : Ideal.ofBits .f32 0x38B8AA3B#32 = ((scale : ℝ) : EReal) := by
  unfold scale; simp [Ideal.ofBits, Ideal.ieee, -EReal.coe_mul]; norm_num
theorem ofBits_floor : Ideal.ofBits .f32 0x0DA24260#32 = ((floor : ℝ) : EReal) := by
  unfold floor; simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_rows : Ideal.ofBits .f32 0x46000000#32 = ((8192 : ℝ) : EReal) := by
  simp [Ideal.ofBits, Ideal.ieee, -EReal.coe_mul]; norm_num

/-- The reference's order of scaling, to bits, per row, added and halved, is the kernel's one scale of the two totals. -/
theorem scale_split (a b : EReal) :
    ((1 / 2 : ℝ) : EReal) * (Ideal.div (a * ((toBits : ℝ) : EReal)) ((8192 : ℝ) : EReal) + Ideal.div (b * ((toBits : ℝ) : EReal)) ((8192 : ℝ) : EReal))
      = (a + b) * ((scale : ℝ) : EReal) := by
  rw [Ideal.div_coe (by norm_num), Ideal.div_coe (by norm_num),
    EReal.left_distrib_of_nonneg_of_ne_top (EReal.coe_nonneg.mpr (by norm_num)) (EReal.coe_ne_top _),
    EReal.right_distrib_of_nonneg_of_ne_top (EReal.coe_nonneg.mpr scale_nonneg) (EReal.coe_ne_top _)]
  have e : ∀ x : EReal, ((1 / 2 : ℝ) : EReal) * (x * ((toBits : ℝ) : EReal) * ((1 / 8192 : ℝ) : EReal)) = x * ((scale : ℝ) : EReal) := fun x => by
    rw [mul_comm, mul_assoc, mul_assoc, ← EReal.coe_mul, ← EReal.coe_mul]
    congr 2; unfold toBits scale; norm_num
  rw [e, e]

/-! ## The tiles of the array -/

/-- The row and column of entry `(a, b)` of tile `j` of chunk `k`. -/
def place : (Fin 8 × Fin 1024) × (Fin 32 × Fin 128) ≃ Fin 8192 × Fin 4096 where
  toFun x := (⟨256 * x.2.1.val + (8 * (x.2.2.val / 4) + x.1.1.val), by omega⟩, ⟨1024 * (x.2.2.val % 4) + x.1.2.val, by omega⟩)
  invFun y := ((⟨y.1.val % 8, by omega⟩, ⟨y.2.val % 1024, by omega⟩),
    (⟨y.1.val / 256, by omega⟩, ⟨4 * (y.1.val % 256 / 8) + y.2.val / 1024, by omega⟩))
  left_inv x := by
    obtain ⟨⟨a, b⟩, k, j⟩ := x
    simp only [Prod.mk.injEq, Fin.ext_iff]
    omega
  right_inv y := by
    obtain ⟨r, c⟩ := y
    simp only [Prod.mk.injEq, Fin.ext_iff]
    omega

/-- Tile by tile, the sum is over every entry once. -/
theorem sum_tiles (f : Fin 8192 → Fin 4096 → EReal) :
    ∑ x : Fin 8 × Fin 1024, ∑ y : Fin 32 × Fin 128, f (place (x, y)).1 (place (x, y)).2 = ∑ z : Fin 8192 × Fin 4096, f z.1 z.2 := by
  rw [← Finset.univ_product_univ (α := Fin 8192), ← Fintype.sum_prod_type' (fun x y => f (place (x, y)).1 (place (x, y)).2)]
  exact Fintype.sum_equiv place _ _ fun _ => rfl

/-! ## The two totals -/

/-- The kernel's value of two 8192 by 4096 arrays. -/
def fusedTotal (P W : (⟨2, ![8192, 4096]⟩ : Shape).Idx → EReal) : EReal :=
  (∑ x : (⟨2, ![8192, 4096]⟩ : Shape).Idx, fused ((floor : ℝ) : EReal) (W x) (P x)) * ((scale : ℝ) : EReal)

/-- The reference's value: both arrays against their mean. -/
def againstTotal (P W : (⟨2, ![8192, 4096]⟩ : Shape).Idx → EReal) : EReal :=
  (∑ x : (⟨2, ![8192, 4096]⟩ : Shape).Idx, (against (W x) (((1 / 2 : ℝ) : EReal) * (W x + P x))
    + against (P x) (((1 / 2 : ℝ) : EReal) * (W x + P x)))) * ((scale : ℝ) : EReal)

/-- They are one number where every entry is zero or not below the floor. -/
theorem totals_eq (P W : (⟨2, ![8192, 4096]⟩ : Shape).Idx → EReal)
    (h : ∀ x, (P x = 0 ∨ ((floor : ℝ) : EReal) ≤ P x) ∧ (W x = 0 ∨ ((floor : ℝ) : EReal) ≤ W x)) : fusedTotal P W = againstTotal P W := by
  unfold fusedTotal againstTotal
  rw [Finset.sum_congr rfl fun x _ => fused_eq floor_pos (h x).2 (h x).1]

end Cert.Jsd

end
-- ==== Proof.StreamRing.lean ====
/-
  A five-slot read ring over a matrix of 8192 rows, taken 256 rows (a CHUNK) at a time. This file states, for any
  signature and any float values, what the kernel's two rings share: the names of a chunk, a slot and a slot's
  semaphore; what is held of each when it is at rest and when a transfer is on its way; and one rule per operation of
  the kernel on a ring — start a transfer, wait for it, load an 8 by 1024 tile of the slot it landed in.
-/
module

public import Idealize.ShloMosaic.Lib.Pipeline.Frame
public import Idealize.ShloMosaic.Lib.Transfers
public import Idealize.ShloMosaic.Lib.Ring
public import Idealize.ShloMosaic.Lib.Ring.Trips
public import Idealize.ShloMosaic.Lib.ValueLayout
public import Idealize.ShloMosaic.Lib.Affine
public import Idealize.ShloMosaic.Lib.Tactic

@[expose] public section

noncomputable section

namespace Cert.JsdRing

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (UD)

/-! ## Shapes: the matrix, a chunk, the ring buffer, a slot, a tile -/

abbrev SMat : Shape := ⟨2, ![8192, 4096]⟩
abbrev SChunk : Shape := ⟨2, ![256, 4096]⟩
abbrev SRing : Shape := ⟨3, ![5, 256, 4096]⟩
abbrev SSlot : Shape := ⟨3, ![1, 256, 4096]⟩
abbrev STile : Shape := ⟨3, ![1, 8, 1024]⟩
abbrev SSems : Shape := ⟨1, ![5]⟩
abbrev SSem1 : Shape := ⟨1, ![1]⟩
abbrev SSem : Shape := ⟨0, ![]⟩

theorem chunk_inb (b : Fin 32) : ∀ a, (![256 * b.val, 0] : Fin 2 → Nat) a + SChunk.size a ≤ SMat.size a := by
  have := b.isLt; intro a; fin_cases a
  · show 256 * b.val + 256 ≤ 8192; omega
  · show 0 + 4096 ≤ 4096; omega
theorem slot_inb (s : Fin 5) : ∀ a, (![s.val, 0, 0] : Fin 3 → Nat) a + SSlot.size a ≤ SRing.size a := by
  have := s.isLt; intro a; fin_cases a
  · show s.val + 1 ≤ 5; omega
  · show 0 + 256 ≤ 256; omega
  · show 0 + 4096 ≤ 4096; omega
theorem sem_inb (s : Fin 5) : ∀ a, (![s.val] : Fin 1 → Nat) a + SSem1.size a ≤ SSems.size a := by
  have := s.isLt; intro a; fin_cases a; show s.val + 1 ≤ 5; omega
theorem slot_squeezes : SSlot.Squeezes SChunk := by decide
theorem sem_squeezes : SSem1.Squeezes SSem := by decide

/-- The tile of a chunk's contents `w` whose first entry is at row `r`, column `cc`. -/
def tileOf {α : Type} (w : SChunk.Idx → α) (r cc : ℕ) : STile.Idx → α :=
  fun x => w (ix2 (Fin.ofNat 256 (r + (x 1).val)) (Fin.ofNat 4096 (cc + (x 2).val)))

variable {nD : Nat} {τ : Topo} {sig : RefSig} {Val : EltTy → Type} {Λ : Labels}

/-! ## Names -/

section Names

/-- Chunk `b` of the matrix: its rows `256 b … 256 b + 255`. -/
def chunk (src : Memref sig .tc .hbm SMat .f32) (b : Fin 32) : Memref sig .tc .hbm SChunk .f32 :=
  src.slice (Rect.unit (s := SMat) ![256 * b.val, 0] SChunk.size (chunk_inb b)) (fun _ => rfl)
/-- Slot `s` of the ring buffer. -/
def slot (buf : Memref sig .tc .vmem SRing .f32) (s : Fin 5) : Memref sig .tc .vmem SChunk .f32 :=
  (buf.slice (Rect.unit (s := SRing) ![s.val, 0, 0] SSlot.size (slot_inb s)) (fun _ => rfl)).squeeze SChunk slot_squeezes
/-- Slot `s`'s semaphore. -/
def cell (sems : DmaSems sig SSems) (s : Fin 5) : DmaSems sig SSem :=
  (sems.slice (Rect.unit (s := SSems) ![s.val] SSem1.size (sem_inb s))).squeeze SSem sem_squeezes

end Names

local notation "𝕄" => MT nD τ sig Unit Val ℕ (UD sig nD τ) ℕ

/-! ## What is held -/

section Held
variable (c : Dev nD) (src : Memref sig .tc .hbm SMat .f32) (buf : Memref sig .tc .vmem SRing .f32) (sems : DmaSems sig SSems)
  (X : Buf Val (src.view.loc (c : Thread nD τ)))

/-- Slot `s`'s semaphore at zero. -/
def cellP (s : Fin 5) : sProp 𝕄 := semVal ((c : Thread nD τ), SemLoc.dma (cell sems s).sem) 0
/-- Slot `s` held at contents `f`. -/
def slotP (s : Fin 5) (f : Buf Val (buf.view.loc (c : Thread nD τ))) : sProp 𝕄 :=
  buf.view.loc (c : Thread nD τ) ↦[(slot buf s).view.set]{fullShare} f
/-- Chunk `b` of the matrix held at the matrix's contents. -/
def homeP (b : Fin 32) : sProp 𝕄 := (chunk src b).view.loc (c : Thread nD τ) ↦[(chunk src b).view.set]{fullShare} X
/-- Chunk `b`'s contents. -/
def words (b : Fin 32) : SChunk.Idx → Val .f32 := (chunk src b).view.read Val X
/-- Slot `s` held, its contents the chunk contents `w`. -/
def landedP (s : Fin 5) (w : SChunk.Idx → Val .f32) : sProp 𝕄 :=
  iprop(∃ f, slotP (nD := nD) (τ := τ) c buf s f ∗ ⌜(slot buf s).view.read Val f = w⌝)
/-- Slot `s` at rest: held at some contents, its semaphore at zero. -/
def freeP (s : Fin 5) : sProp 𝕄 := iprop((∃ f, slotP (nD := nD) (τ := τ) c buf s f) ∗ cellP c sems s)
/-- Chunk `b` on its way into slot `s`: the wait will hand over the slot with the chunk's contents and the chunk itself. -/
def flightP (s : Fin 5) (b : Fin 32) : sProp 𝕄 :=
  Transfers.Flight countersEmb (c : Thread nD τ) (SemLoc.dma (cell sems s).sem) () (slot buf s).view.dmaCredit
    iprop(landedP c buf s (words c src X b) ∗ homeP c src X b)
/-- The core owes nothing, whatever waits it has done. -/
def owesP : sProp 𝕄 := iprop(∃ W, owes (c : Thread nD τ) 0 W)

end Held

/-! ## The operations -/

section Rules
variable {defs : Defs nD τ sig Val Λ} (𝒱 : Variants) (c : Dev nD)
  {src : Memref sig .tc .hbm SMat .f32} {buf : Memref sig .tc .vmem SRing .f32} {sems : DmaSems sig SSems}
  {X : Buf Val (src.view.loc (c : Thread nD τ))} {α : Type}

theorem credit_pos (s : Fin 5) : 0 < (slot buf s).view.dmaCredit := View.dmaCredit_pos _ (Shape.numel_pos (by decide))

/-- Starting the transfer of chunk `b` into slot `s`, at offsets equal to the named ones. -/
theorem wp_issue {o1 : Fin 1 → Nat} {o2 : Fin 3 → Nat} {o3 : Fin 2 → Nat} {s : Fin 5} {b : Fin 32}
    (h1 : o1 = ![s.val]) (h2 : o2 = ![s.val, 0, 0]) (h3 : o3 = ![256 * b.val, 0])
    {i1 : ∀ a, o1 a + SSem1.size a ≤ SSems.size a} {i2 : ∀ a, o2 a + SSlot.size a ≤ SRing.size a}
    {i3 : ∀ a, o3 a + SChunk.size a ≤ SMat.size a} {q1 : SSem1.Squeezes SSem} {q2 : SSlot.Squeezes SChunk} {g2 g3}
    {hsrc hdst hsem} {k : PUnit → Prog (TpuEff nD τ sig Val Λ .tc) α} {Q : α → sProp 𝕄} :
    iprop(homeP c src X b ∗ freeP c buf sems s)
      ⊢ iprop((flightP c src buf sems X s b -∗ wp frame (wpE defs 𝒱 (c : Thread nD τ) none) Set.univ (k ⟨⟩) Q)
        -∗ wp frame (wpE defs 𝒱 (c : Thread nD τ) none) Set.univ
            (.op (.enqueueDma (src.slice (Rect.unit (s := SMat) o3 SChunk.size i3) g3)
              (.here ((buf.slice (Rect.unit (s := SRing) o2 SSlot.size i2) g2).squeeze SChunk q2))
              (.dma ((sems.slice (Rect.unit (s := SSems) o1 SSem1.size i1)).squeeze SSem q1).sem) hsrc hdst hsem) k) Q) := by
  subst h1 h2 h3
  unfold freeP cellP slotP homeP
  iintro ⟨Hh, ⟨⟨%f, Hs⟩, Hc⟩⟩ Hk
  iapply (Transfers.wp_dmaLocal countersEmb 𝒱 (c : Thread nD τ) none (src := chunk src b) (dst := slot buf s)
    (sm := SemLoc.dma (cell sems s).sem) (q := fullShare) (fs := X) (fd := f) () (slot buf s).view.dmaCredit rfl (credit_pos s)
    (Finset.Subset.refl _)) $$ [Hh Hs Hc]
  · isplitl [Hh]; · iexact Hh
    isplitl [Hs]; · iexact Hs
    iexact Hc
  iintro HF
  iapply Hk
  unfold flightP
  iapply (Transfers.Flight_mono countersEmb (c : Thread nD τ) ?_) $$ HF
  unfold landedP slotP homeP
  iintro ⟨Hd, Hh⟩
  isplitl [Hd]
  · iexists _
    isplitl [Hd]; · iexact Hd
    ipureintro
    exact View.read_write_univ _ _
  · iexact Hh

/-- Waiting for chunk `b` in slot `s`: the slot with the chunk's contents, the chunk, and the slot's semaphore at zero. -/
theorem wp_await {o1 : Fin 1 → Nat} {o2 : Fin 3 → Nat} {s : Fin 5} {b : Fin 32}
    (h1 : o1 = ![s.val]) (h2 : o2 = ![s.val, 0, 0])
    {i1 : ∀ a, o1 a + SSem1.size a ≤ SSems.size a} {i2 : ∀ a, o2 a + SSlot.size a ≤ SRing.size a}
    {q1 : SSem1.Squeezes SSem} {q2 : SSlot.Squeezes SChunk} {g2} {srcw : Memref sig .tc .hbm SChunk .f32}
    {hsrc hdst} {k : PUnit → Prog (TpuEff nD τ sig Val Λ .tc) α} {Q : α → sProp 𝕄} :
    iprop(flightP c src buf sems X s b ∗ owesP c)
      ⊢ iprop((iprop(landedP c buf s (words c src X b) ∗ homeP c src X b ∗ cellP c sems s ∗ owesP c)
            -∗ wp frame (wpE defs 𝒱 (c : Thread nD τ) none) Set.univ (k ⟨⟩) Q)
        -∗ wp frame (wpE defs 𝒱 (c : Thread nD τ) none) Set.univ
            (.op (.waitDma2 ((sems.slice (Rect.unit (s := SSems) o1 SSem1.size i1)).squeeze SSem q1).sem srcw
              ((buf.slice (Rect.unit (s := SRing) o2 SSlot.size i2) g2).squeeze SChunk q2) hsrc hdst) k) Q) := by
  subst h1 h2
  unfold flightP owesP cellP
  iintro ⟨HF, ⟨%W, HW⟩⟩ Hk
  iapply (Transfers.wp_waitLocal countersEmb 𝒱 (c : Thread nD τ) none (dstw := slot buf s)
    (sem := (cell sems s).sem) () rfl) $$ [HF HW]
  · isplitl [HF]; · iexact HF
    iexact HW
  iintro ⟨⟨Hl, Hh⟩, Hc, HW⟩
  iapply Hk
  isplitl [Hl]; · iexact Hl
  isplitl [Hh]; · iexact Hh
  isplitl [Hc]; · iexact Hc
  iexists _; iexact HW

/-- An index of the ring buffer is determined by its three coordinates. -/
theorem ring_ext {x y : SRing.Idx} (h0 : (x 0).val = (y 0).val) (h1 : (x 1).val = (y 1).val) (h2 : (x 2).val = (y 2).val) : x = y := by
  funext a; fin_cases a
  · exact Fin.ext h0
  · exact Fin.ext h1
  · exact Fin.ext h2

/-- The tile at row `r`, column `cc` of slot `s`, as the ring buffer's own indices. -/
theorem tile_idx {s : Fin 5} {r cc : ℕ} (i : ∀ a, (![s.val, r, cc] : Fin 3 → Nat) a + STile.size a ≤ SRing.size a) (x : STile.Idx) :
    (Rect.unit (s := SRing) ![s.val, r, cc] STile.size i).toLoadRect.idx x
      = (Rect.unit (s := SRing) ![s.val, 0, 0] SSlot.size (slot_inb s)).emb
          (Shape.reshapeEquiv slot_squeezes.numel_eq (ix2 (Fin.ofNat 256 (r + (x 1).val)) (Fin.ofNat 4096 (cc + (x 2).val)))) := by
  have hr : r + 8 ≤ 256 := i 1
  have hc : cc + 1024 ≤ 4096 := i 2
  have x0 : (x 0).val < 1 := (x 0).isLt
  have x1 : (x 1).val < 8 := (x 1).isLt
  have x2 : (x 2).val < 1024 := (x 2).isLt
  rw [reshapeEquiv_ix2_1ab]
  refine ring_ext ?_ ?_ ?_
  · show s.val + 1 * (x 0).val = s.val + 1 * 0; omega
  · show r + 1 * (x 1).val = 0 + 1 * ((r + (x 1).val) % 256); omega
  · show cc + 1 * (x 2).val = 0 + 1 * ((cc + (x 2).val) % 4096); omega

/-- What a load of a tile within slot `s` reads. -/
theorem readAt_tile (buf : Memref sig .tc .vmem SRing .f32) (s : Fin 5) (r cc : ℕ)
    (i : ∀ a, (![s.val, r, cc] : Fin 3 → Nat) a + STile.size a ≤ SRing.size a) (f : buf.view.ty.Contents Val) :
    buf.view.readAt Val (Rect.unit (s := SRing) ![s.val, r, cc] STile.size i).toLoadRect f
      = tileOf ((slot buf s).view.read Val f) r cc := by
  funext x
  rw [View.readAt_apply, tile_idx]
  rfl

/-- A tile within slot `s` lies in the slot. -/
theorem setOn_tile (buf : Memref sig .tc .vmem SRing .f32) (s : Fin 5) (r cc : ℕ)
    (i : ∀ a, (![s.val, r, cc] : Fin 3 → Nat) a + STile.size a ≤ SRing.size a) :
    buf.view.setOn (Rect.unit (s := SRing) ![s.val, r, cc] STile.size i).toLoadRect.set ⊆ (slot buf s).view.set := by
  have hset : (slot buf s).view.set = (Rect.unit (s := SRing) ![s.val, 0, 0] SSlot.size (slot_inb s)).set.map buf.view.emb :=
    (View.set_reshape _ _).trans (View.set_slice _ _)
  rw [hset]
  refine Finset.map_subset_map.mpr fun y hy => ?_
  rw [Rect.mem_set_unit] at hy
  rw [Rect.mem_set_unit]
  have hr : r + 8 ≤ 256 := i 1
  have hc : cc + 1024 ≤ 4096 := i 2
  intro a
  have h := hy a
  fin_cases a
  · exact h
  · have h1 : r ≤ (y 1).val ∧ (y 1).val < r + 8 := h
    show 0 ≤ (y 1).val ∧ (y 1).val < 0 + 256; omega
  · have h1 : cc ≤ (y 2).val ∧ (y 2).val < cc + 1024 := h
    show 0 ≤ (y 2).val ∧ (y 2).val < 0 + 4096; omega

/-- A load of a tile within a landed slot reads that tile of the chunk. -/
theorem wp_tile {o : Fin 3 → Nat} {s : Fin 5} {r cc : ℕ} {w : SChunk.Idx → Val .f32} (h : o = ![s.val, r, cc])
    {i : ∀ a, o a + STile.size a ≤ SRing.size a} {hl} {k : (STile.Idx → Val .f32) → Prog (TpuEff nD τ sig Val Λ .tc) α} {Q : α → sProp 𝕄} :
    (landedP c buf s w : sProp 𝕄)
      ⊢ iprop((landedP c buf s w -∗ wp frame (wpE defs 𝒱 (c : Thread nD τ) none) Set.univ (k (tileOf w r cc)) Q)
        -∗ wp frame (wpE defs 𝒱 (c : Thread nD τ) none) Set.univ
            (.op (.load buf (Rect.unit (s := SRing) o STile.size i).toLoadRect hl) k) Q) := by
  subst h
  unfold landedP slotP
  iintro ⟨%f, Hs, %hw⟩ Hk
  subst hw
  iapply (wp_load 𝒱 (c : Thread nD τ) none Set.univ (q := fullShare) (f := f) (setOn_tile buf s r cc i)) $$ [Hs]
  · iexact Hs
  iintro Hs
  rw [readAt_tile]
  iapply Hk
  iexists f
  isplitl [Hs]; · iexact Hs
  ipureintro; rfl

end Rules

/-! ## The ring before, in the middle of, and after trip `k` -/

section Rounds
variable (c : Dev nD) (src : Memref sig .tc .hbm SMat .f32) (buf : Memref sig .tc .vmem SRing .f32) (sems : DmaSems sig SSems)
  (X : Buf Val (src.view.loc (c : Thread nD τ)))

theorem sep_insert {I : Type} [DecidableEq I] {i : I} {S : Finset I} (h : i ∉ S) {Φ : I → sProp 𝕄} :
    bigSep (insert i S) Φ = iprop(Φ i ∗ bigSep S Φ) := bigSep_insert h
theorem sep_erase {I : Type} [DecidableEq I] {i : I} {S : Finset I} (h : i ∈ S) {Φ : I → sProp 𝕄} :
    bigSep S Φ = iprop(Φ i ∗ bigSep (S.erase i) Φ) := bigSep_erase h

/-- The slot of chunk `p`: on its way if there is such a chunk, otherwise at rest. -/
def roleP (p : ℕ) : sProp 𝕄 :=
  if p < 32 then flightP c src buf sems X (Ring.sl 5 p) (Ring.bk 32 p) else freeP c buf sems (Ring.sl 5 p)
/-- Chunks `b` at home for `b` in a set. -/
def homesP (S : Finset (Fin 32)) : sProp 𝕄 := bigSep S (homeP (nD := nD) (τ := τ) c src X)
/-- Before trip `k`: chunks `k … k + 3` on their way, the fifth slot at rest. -/
def ringP (k : ℕ) : sProp 𝕄 :=
  iprop(homesP c src X (Ring.homeSet 4 k) ∗ roleP c src buf sems X k ∗ roleP c src buf sems X (k + 1) ∗ roleP c src buf sems X (k + 2)
    ∗ roleP c src buf sems X (k + 3) ∗ freeP c buf sems (Ring.sl 5 (k + 4)))
/-- Chunk `k` landed in its slot. -/
def tileP (k : ℕ) : sProp 𝕄 := landedP c buf (Ring.sl 5 k) (words c src X (Ring.bk 32 k))
/-- In trip `k`, chunk `k` waited for and chunk `k + 4` not yet started: what is held beside the landed slot. -/
def midP (k : ℕ) : sProp 𝕄 :=
  iprop(homesP c src X (insert (Ring.bk 32 k) (Ring.homeSet 4 k)) ∗ cellP c sems (Ring.sl 5 k)
    ∗ roleP c src buf sems X (k + 1) ∗ roleP c src buf sems X (k + 2) ∗ roleP c src buf sems X (k + 3) ∗ freeP c buf sems (Ring.sl 5 (k + 4)))
/-- In trip `k`, chunk `k + 4` (if there is one) started: what is held beside the landed slot. -/
def lateP (k : ℕ) : sProp 𝕄 :=
  iprop(homesP c src X (Ring.homeSet 4 (k + 1)) ∗ cellP c sems (Ring.sl 5 k)
    ∗ roleP c src buf sems X (k + 1) ∗ roleP c src buf sems X (k + 2) ∗ roleP c src buf sems X (k + 3) ∗ roleP c src buf sems X (k + 4))

/-- When no chunk is left to start, the middle of the trip is its late part. -/
theorem mid_late {k : ℕ} (hk : k < 32) (h : 32 ≤ k + 4) : (midP c src buf sems X k : sProp 𝕄) ⊢ lateP c src buf sems X k := by
  unfold midP lateP
  rw [Ring.homeSet_succ_tail 4 k h hk]
  iintro ⟨A, B, C, D, E, F⟩
  isplitl [A]; · iexact A
  isplitl [B]; · iexact B
  isplitl [C]; · iexact C
  isplitl [D]; · iexact D
  isplitl [E]; · iexact E
  rw [roleP, if_neg (by omega)]
  iexact F

/-- The end of trip `k`: the landed slot is the one at rest before trip `k + 1`. -/
theorem late_ring (k : ℕ) :
    (iprop(tileP c src buf X k ∗ lateP c src buf sems X k) : sProp 𝕄) ⊢ ringP c src buf sems X (k + 1) := by
  unfold lateP ringP tileP landedP
  iintro ⟨⟨%f, Hs, -⟩, A, B, C, D, E, F⟩
  isplitl [A]; · iexact A
  isplitl [C]; · iexact C
  isplitl [D]; · iexact D
  isplitl [E]; · iexact E
  isplitl [F]; · iexact F
  rw [show k + 1 + 4 = k + 5 from rfl, Ring.sl_add]
  unfold freeP
  isplitl [Hs]
  · iexists f; iexact Hs
  · iexact B

variable {defs : Defs nD τ sig Val Λ} (𝒱 : Variants) {src buf sems X} {α : Type}

/-- Trip `k`'s wait. -/
theorem wp_ringAwait {k : ℕ} (hk : k < 32) {o1 : Fin 1 → Nat} {o2 : Fin 3 → Nat}
    (h1 : o1 = ![(Ring.sl 5 k).val]) (h2 : o2 = ![(Ring.sl 5 k).val, 0, 0])
    {i1 : ∀ a, o1 a + SSem1.size a ≤ SSems.size a} {i2 : ∀ a, o2 a + SSlot.size a ≤ SRing.size a}
    {q1 : SSem1.Squeezes SSem} {q2 : SSlot.Squeezes SChunk} {g2} {srcw : Memref sig .tc .hbm SChunk .f32}
    {hsrc hdst} {kk : PUnit → Prog (TpuEff nD τ sig Val Λ .tc) α} {Q : α → sProp 𝕄} :
    iprop(ringP c src buf sems X k ∗ owesP c)
      ⊢ iprop((iprop(tileP c src buf X k ∗ midP c src buf sems X k ∗ owesP c)
            -∗ wp frame (wpE defs 𝒱 (c : Thread nD τ) none) Set.univ (kk ⟨⟩) Q)
        -∗ wp frame (wpE defs 𝒱 (c : Thread nD τ) none) Set.univ
            (.op (.waitDma2 ((sems.slice (Rect.unit (s := SSems) o1 SSem1.size i1)).squeeze SSem q1).sem srcw
              ((buf.slice (Rect.unit (s := SRing) o2 SSlot.size i2) g2).squeeze SChunk q2) hsrc hdst) kk) Q) := by
  unfold ringP
  rw [show (roleP c src buf sems X k : sProp 𝕄) = flightP c src buf sems X (Ring.sl 5 k) (Ring.bk 32 k) from if_pos hk]
  iintro ⟨⟨A, B, C, D, E, F⟩, HW⟩ Hk
  iapply (wp_await 𝒱 c h1 h2) $$ [B HW]
  · isplitl [B]; · iexact B
    iexact HW
  iintro ⟨Hl, Hh, Hc, HW⟩
  iapply Hk
  unfold tileP midP homesP
  isplitl [Hl]; · iexact Hl
  isplitr [HW]
  · isplitl [A Hh]
    · rw [sep_insert (Ring.bk_not_mem_homeSet 4 k hk (by decide))]
      isplitl [Hh]; · iexact Hh
      iexact A
    isplitl [Hc]; · iexact Hc
    isplitl [C]; · iexact C
    isplitl [D]; · iexact D
    isplitl [E]; · iexact E
    iexact F
  · iexact HW

/-- Trip `k` starts chunk `k + 4`. -/
theorem wp_ringIssue {k : ℕ} (hk : k + 4 < 32) {o1 : Fin 1 → Nat} {o2 : Fin 3 → Nat} {o3 : Fin 2 → Nat}
    (h1 : o1 = ![(Ring.sl 5 (k + 4)).val]) (h2 : o2 = ![(Ring.sl 5 (k + 4)).val, 0, 0]) (h3 : o3 = ![256 * (Ring.bk 32 (k + 4)).val, 0])
    {i1 : ∀ a, o1 a + SSem1.size a ≤ SSems.size a} {i2 : ∀ a, o2 a + SSlot.size a ≤ SRing.size a}
    {i3 : ∀ a, o3 a + SChunk.size a ≤ SMat.size a} {q1 : SSem1.Squeezes SSem} {q2 : SSlot.Squeezes SChunk} {g2 g3}
    {hsrc hdst hsem} {kk : PUnit → Prog (TpuEff nD τ sig Val Λ .tc) α} {Q : α → sProp 𝕄} :
    (midP c src buf sems X k : sProp 𝕄)
      ⊢ iprop((lateP c src buf sems X k -∗ wp frame (wpE defs 𝒱 (c : Thread nD τ) none) Set.univ (kk ⟨⟩) Q)
        -∗ wp frame (wpE defs 𝒱 (c : Thread nD τ) none) Set.univ
            (.op (.enqueueDma (src.slice (Rect.unit (s := SMat) o3 SChunk.size i3) g3)
              (.here ((buf.slice (Rect.unit (s := SRing) o2 SSlot.size i2) g2).squeeze SChunk q2))
              (.dma ((sems.slice (Rect.unit (s := SSems) o1 SSem1.size i1)).squeeze SSem q1).sem) hsrc hdst hsem) kk) Q) := by
  have hmem : Ring.bk 32 (k + 4) ∈ insert (Ring.bk 32 k) (Ring.homeSet (NB := 32) 4 k) := by
    rw [Finset.mem_insert, Ring.mem_homeSet, Ring.bk_val hk]; omega
  have hset : (insert (Ring.bk 32 k) (Ring.homeSet (NB := 32) 4 k)).erase (Ring.bk 32 (k + 4)) = Ring.homeSet 4 (k + 1) := by
    rw [Ring.homeSet_succ 4 k hk, Finset.erase_insert_of_ne]
    rw [Ne, Fin.ext_iff, Ring.bk_val hk, Ring.bk_val (by omega)]; omega
  unfold midP homesP
  rw [sep_erase hmem, hset]
  iintro ⟨⟨Hh, A⟩, B, C, D, E, F⟩ Hk
  iapply (wp_issue 𝒱 c h1 h2 h3) $$ [Hh F]
  · isplitl [Hh]; · iexact Hh
    iexact F
  iintro HF
  iapply Hk
  unfold lateP homesP
  isplitl [A]; · iexact A
  isplitl [B]; · iexact B
  isplitl [C]; · iexact C
  isplitl [D]; · iexact D
  isplitl [E]; · iexact E
  rw [roleP, if_pos hk]
  iexact HF

end Rounds

/-! ## Before the first trip and after the last -/

section Ends
variable (c : Dev nD) (src : Memref sig .tc .hbm SMat .f32) (buf : Memref sig .tc .vmem SRing .f32) (sems : DmaSems sig SSems)
  (X : Buf Val (src.view.loc (c : Thread nD τ)))

/-- The ring at rest: every chunk at home, every slot free. -/
def restP : sProp 𝕄 :=
  iprop(homesP c src X Finset.univ ∗ freeP c buf sems 0 ∗ freeP c buf sems 1 ∗ freeP c buf sems 2 ∗ freeP c buf sems 3 ∗ freeP c buf sems 4)

/-- All the chunks, the first four apart. -/
theorem homes_first : (homesP c src X Finset.univ : sProp 𝕄)
    = iprop(homeP c src X 0 ∗ homeP c src X 1 ∗ homeP c src X 2 ∗ homeP c src X 3 ∗ homesP c src X (Ring.homeSet 4 0)) := by
  have e : (Finset.univ : Finset (Fin 32)) = insert 0 (insert 1 (insert 2 (insert 3 (Ring.homeSet (NB := 32) 4 0)))) := by decide
  unfold homesP
  rw [e, bigSep_insert (by decide), bigSep_insert (by decide), bigSep_insert (by decide), bigSep_insert (by decide)]; rfl

/-- The first four chunks started: the ring before trip 0. -/
theorem first_ring : (iprop(homesP c src X (Ring.homeSet 4 0) ∗ flightP c src buf sems X 0 0 ∗ flightP c src buf sems X 1 1
      ∗ flightP c src buf sems X 2 2 ∗ flightP c src buf sems X 3 3 ∗ freeP c buf sems 4) : sProp 𝕄) ⊢ ringP c src buf sems X 0 := by
  unfold ringP
  rw [roleP, if_pos (by decide), roleP, if_pos (by decide), roleP, if_pos (by decide), roleP, if_pos (by decide)]
  exact .rfl

/-- After the last trip the ring is at rest. -/
theorem ring_last : (ringP c src buf sems X 32 : sProp 𝕄) ⊢ restP c src buf sems X := by
  unfold ringP restP
  rw [roleP, if_neg (by decide), roleP, if_neg (by decide), roleP, if_neg (by decide), roleP, if_neg (by decide),
    Ring.homeSet_last 4 32 (by decide)]
  iintro ⟨A, B, C, D, E, F⟩
  isplitl [A]; · iexact A
  isplitl [E]; · iexact E
  isplitl [F]; · iexact F
  isplitl [B]; · iexact B
  isplitl [C]; · iexact C
  iexact D

end Ends

/-! ## The chunks make up the matrix, the slots the ring buffer -/

section Cover
variable (c : Dev nD) (src : Memref sig .tc .hbm SMat .f32) (buf : Memref sig .tc .vmem SRing .f32) (sems : DmaSems sig SSems)

/-- Chunk `b`'s elements, and slot `s`'s, among the whole buffer's. -/
def chunkSet (b : Fin 32) : Finset src.view.ty.Idx :=
  (Rect.unit (s := SMat) ![256 * b.val, 0] SChunk.size (chunk_inb b)).set.map src.view.emb
def slotSet (s : Fin 5) : Finset buf.view.ty.Idx :=
  (Rect.unit (s := SRing) ![s.val, 0, 0] SSlot.size (slot_inb s)).set.map buf.view.emb
theorem chunk_set (b : Fin 32) : (chunk src b).view.set = chunkSet src b := View.set_slice _ _
theorem slot_set (s : Fin 5) : (slot buf s).view.set = slotSet buf s := (View.set_reshape _ _).trans (View.set_slice _ _)

theorem mem_chunk (b : Fin 32) (x : SMat.Idx) :
    x ∈ (Rect.unit (s := SMat) ![256 * b.val, 0] SChunk.size (chunk_inb b)).set ↔ 256 * b.val ≤ (x 0).val ∧ (x 0).val < 256 * b.val + 256 := by
  rw [Rect.mem_set_unit]
  refine ⟨fun h => h 0, fun h a => ?_⟩
  have h1 : (x 1).val < 4096 := (x 1).isLt
  fin_cases a
  · exact h
  · show 0 ≤ (x 1).val ∧ (x 1).val < 0 + 4096; omega
theorem mem_slot (s : Fin 5) (x : SRing.Idx) :
    x ∈ (Rect.unit (s := SRing) ![s.val, 0, 0] SSlot.size (slot_inb s)).set ↔ (x 0).val = s.val := by
  rw [Rect.mem_set_unit]
  have h1 : (x 1).val < 256 := (x 1).isLt
  have h2 : (x 2).val < 4096 := (x 2).isLt
  refine ⟨fun h => ?_, fun h a => ?_⟩
  · have h0 : s.val ≤ (x 0).val ∧ (x 0).val < s.val + 1 := h 0
    omega
  fin_cases a
  · show s.val ≤ (x 0).val ∧ (x 0).val < s.val + 1; omega
  · show 0 ≤ (x 1).val ∧ (x 1).val < 0 + 256; omega
  · show 0 ≤ (x 2).val ∧ (x 2).val < 0 + 4096; omega

theorem chunk_disjoint (b b' : Fin 32) (h : b ≠ b') : Disjoint (chunkSet src b) (chunkSet src b') := by
  unfold chunkSet
  rw [Finset.disjoint_map, Finset.disjoint_left]
  intro x hx hx'
  rw [mem_chunk] at hx hx'
  exact h (Fin.ext (by omega))
theorem slot_disjoint (s s' : Fin 5) (h : s ≠ s') : Disjoint (slotSet buf s) (slotSet buf s') := by
  unfold slotSet
  rw [Finset.disjoint_map, Finset.disjoint_left]
  intro x hx hx'
  rw [mem_slot] at hx hx'
  exact h (Fin.ext (by omega))

theorem chunk_cover (hw : src.view.set = Finset.univ) : Finset.univ.biUnion (chunkSet src) = Finset.univ := by
  rw [← hw]
  ext y
  simp only [Finset.mem_biUnion, Finset.mem_univ, true_and, chunkSet, Finset.mem_map, View.set]
  refine ⟨fun ⟨_, x, _, e⟩ => ⟨x, e⟩, fun ⟨x, e⟩ => ?_⟩
  have h0 : (x 0).val < 8192 := (x 0).isLt
  exact ⟨⟨(x 0).val / 256, by omega⟩, x, (mem_chunk _ _).mpr (by dsimp only; omega), e⟩
theorem slot_cover (hw : buf.view.set = Finset.univ) : Finset.univ.biUnion (slotSet buf) = Finset.univ := by
  rw [← hw]
  ext y
  simp only [Finset.mem_biUnion, Finset.mem_univ, true_and, slotSet, Finset.mem_map, View.set]
  refine ⟨fun ⟨_, x, _, e⟩ => ⟨x, e⟩, fun ⟨x, e⟩ => ?_⟩
  exact ⟨x 0, x, (mem_slot _ _).mpr rfl, e⟩

/-- The whole matrix is its chunks. -/
theorem homes_whole (hw : src.view.set = Finset.univ) (X : Buf Val (src.view.loc (c : Thread nD τ))) :
    (src.view.loc (c : Thread nD τ) ↦{fullShare} X : sProp 𝕄) = homesP c src X Finset.univ :=
  (Ring.pointsTo_blocks (ℓ := src.view.loc (c : Thread nD τ)) (chunkSet src) (chunk_disjoint src) (chunk_cover src hw) X).trans
    (bigSep_congr fun b _ => by rw [← chunk_set]; rfl)

/-- The whole ring buffer is its slots. -/
theorem slots_whole (hw : buf.view.set = Finset.univ) (f : Buf Val (buf.view.loc (c : Thread nD τ))) :
    (buf.view.loc (c : Thread nD τ) ↦{fullShare} f : sProp 𝕄) = bigSep Finset.univ fun s => slotP c buf s f :=
  (Ring.pointsTo_blocks (ℓ := buf.view.loc (c : Thread nD τ)) (slotSet buf) (slot_disjoint buf) (slot_cover buf hw) f).trans
    (bigSep_congr fun s _ => by rw [← slot_set]; rfl)

/-- The slots, each at some contents, are the whole ring buffer at some contents. -/
theorem slots_join (hw : buf.view.set = Finset.univ) (f₀ : Buf Val (buf.view.loc (c : Thread nD τ))) :
    (bigSep Finset.univ (fun s => iprop(∃ f, slotP c buf s f)) : sProp 𝕄) ⊢ iprop(∃ f, buf.view.loc (c : Thread nD τ) ↦{fullShare} f) :=
  (le_of_eq (bigSep_congr fun s _ => by unfold slotP; rw [slot_set])).trans
    (Ring.pointsTo_blocks_join_exists (ℓ := buf.view.loc (c : Thread nD τ)) (slotSet buf) (slot_disjoint buf) (slot_cover buf hw) f₀)

theorem bigSep_five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- The ring buffer and its semaphores at zero are its slots at rest. -/
theorem frees_of_whole (hw : buf.view.set = Finset.univ) (f : Buf Val (buf.view.loc (c : Thread nD τ))) :
    (iprop((buf.view.loc (c : Thread nD τ) ↦{fullShare} f) ∗ bigSep Finset.univ (fun s : Fin 5 => cellP c sems s)) : sProp 𝕄)
      ⊢ bigSep Finset.univ (fun s => freeP c buf sems s) := by
  rw [slots_whole c buf hw f, bigSep_five, bigSep_five, bigSep_five]
  unfold freeP
  iintro ⟨⟨A, B, C, D, E⟩, A', B', C', D', E'⟩
  isplitl [A A']
  · isplitl [A]; · iexists f; iexact A
    iexact A'
  isplitl [B B']
  · isplitl [B]; · iexists f; iexact B
    iexact B'
  isplitl [C C']
  · isplitl [C]; · iexists f; iexact C
    iexact C'
  isplitl [D D']
  · isplitl [D]; · iexists f; iexact D
    iexact D'
  · isplitl [E]; · iexists f; iexact E
    iexact E'

/-- The slots at rest are the ring buffer at some contents and its semaphores at zero. -/
theorem whole_of_frees (hw : buf.view.set = Finset.univ) (f₀ : Buf Val (buf.view.loc (c : Thread nD τ))) :
    (bigSep Finset.univ (fun s => freeP c buf sems s) : sProp 𝕄)
      ⊢ iprop((∃ f, buf.view.loc (c : Thread nD τ) ↦{fullShare} f) ∗ bigSep Finset.univ (fun s : Fin 5 => cellP c sems s)) := by
  unfold freeP
  rw [bigSep_sep']
  iintro ⟨A, B⟩
  isplitl [A]
  · iapply (slots_join c buf hw f₀)
    iexact A
  · iexact B

end Cover

/-! ## Programs by what they take and leave -/

section Does
variable {defs : Defs nD τ sig Val Λ} {𝒱 : Variants} {c : Dev nD}

/-- Holding `P`, the program `p` ends with the value `v` and leaves `R`. -/
def Does (defs : Defs nD τ sig Val Λ) (𝒱 : Variants) (c : Dev nD) (P : sProp 𝕄) {α : Type} (p : Prog (TpuEff nD τ sig Val Λ .tc) α)
    (v : α) (R : sProp 𝕄) : Prop :=
  ∀ Q : α → sProp 𝕄, iprop(P ∗ (R -∗ Q v)) ⊢ wp frame (wpE defs 𝒱 (c : Thread nD τ) none) Set.univ p Q

theorem Does.ret {R : sProp 𝕄} {α : Type} (v : α) : Does defs 𝒱 c R (Prog.ret v) v R := fun Q => by
  refine BIBase.Entails.trans ?_ (le_wp_ret _ _ _ _ _)
  iintro ⟨HR, HQ⟩
  iapply HQ; iexact HR

theorem Does.bind {P R S : sProp 𝕄} {α β : Type} {p : Prog (TpuEff nD τ sig Val Λ .tc) α} {v : α}
    {f : α → Prog (TpuEff nD τ sig Val Λ .tc) β} {u : β} (hp : Does defs 𝒱 c P p v R) (hf : Does defs 𝒱 c R (f v) u S) :
    Does defs 𝒱 c P (p >>= f) u S := fun Q => by
  rw [wp_bind_eq]
  refine BIBase.Entails.trans ?_ (hp _)
  iintro ⟨HP, HQ⟩
  isplitl [HP]; · iexact HP
  iintro HR
  iapply (hf Q)
  isplitl [HR]; · iexact HR
  iexact HQ

/-- What is taken may be more, what is left less. -/
theorem Does.conseq {P P' R R' : sProp 𝕄} {α : Type} {p : Prog (TpuEff nD τ sig Val Λ .tc) α} {v : α}
    (h : Does defs 𝒱 c P p v R) (hP : P' ⊢ P) (hR : R ⊢ R') : Does defs 𝒱 c P' p v R' := fun Q => by
  refine BIBase.Entails.trans ?_ (h Q)
  iintro ⟨HP, HQ⟩
  isplitl [HP]; · iapply hP; iexact HP
  iintro HR
  iapply HQ; iapply hR; iexact HR

theorem Does.eq {P R : sProp 𝕄} {α : Type} {p : Prog (TpuEff nD τ sig Val Λ .tc) α} {v v' : α}
    (h : Does defs 𝒱 c P p v R) (e : v = v') : Does defs 𝒱 c P p v' R := e ▸ h

/-- A counted loop whose trip `k` takes `I k` to `I (k + 1)` and the carried value `acc k` to `acc (k + 1)`. -/
theorem Does.loop {σ : Type} {lb ub st : BitVec 32} (hok : Scf.OK lb ub st) {body : Fin (Scf.trips lb ub st) → σ → Prog (TpuEff nD τ sig Val Λ .tc) σ}
    (I : ℕ → sProp 𝕄) (acc : ℕ → σ) (h : ∀ k : Fin (Scf.trips lb ub st), Does defs 𝒱 c (I k.val) (body k (acc k.val)) (acc (k.val + 1)) (I (k.val + 1))) :
    Does defs 𝒱 c (I 0) (Scf.for lb ub st hok (acc 0) body) (acc (Scf.trips lb ub st)) (I (Scf.trips lb ub st)) := fun Q => by
  refine BIBase.Entails.trans ?_ (Scf.wp_for frame (wpE defs 𝒱 (c : Thread nD τ) none) Set.univ lb ub st hok (acc 0) body
    (fun k a => iprop(I k ∗ ⌜a = acc k⌝)) (fun k a => ?_))
  · iintro ⟨HI, HQ⟩
    isplitl [HI]
    · isplitl [HI]; · iexact HI
      ipureintro; rfl
    · iintro %a ⟨HI, %e⟩
      subst e
      iapply HQ; iexact HI
  · iintro ⟨HI, %e⟩
    subst e
    iapply (h k _)
    isplitl [HI]; · iexact HI
    iintro HI
    isplitl [HI]; · iexact HI
    ipureintro; rfl

/-- What a program does not touch stays held beside it. -/
theorem Does.frame {P R : sProp 𝕄} {α : Type} {p : Prog (TpuEff nD τ sig Val Λ .tc) α} {v : α} (G : sProp 𝕄)
    (h : Does defs 𝒱 c P p v R) : Does defs 𝒱 c iprop(P ∗ G) p v iprop(R ∗ G) := fun Q => by
  refine BIBase.Entails.trans ?_ (h Q)
  iintro ⟨⟨HP, HG⟩, HQ⟩
  isplitl [HP]; · iexact HP
  iintro HR
  iapply HQ
  isplitl [HR]; · iexact HR
  iexact HG

/-- A load from a buffer held whole, with `G` beside it; -/
theorem Does.read {G : sProp 𝕄} {cs : CoreSpace} {s : Shape} {e : EltTy} {m : Memref sig .tc cs s e} {r : LoadRect s} {hl : m.view.LoadsAt r}
    {f : Buf Val (m.view.loc (c : Thread nD τ))} :
    Does defs 𝒱 c iprop((m.view.loc (c : Thread nD τ) ↦{fullShare} f) ∗ G) (Prog.lift (.load m r hl)) (m.view.readAt Val r f)
      iprop((m.view.loc (c : Thread nD τ) ↦{fullShare} f) ∗ G) := fun Q => by
  iintro ⟨⟨Hm, HG⟩, HQ⟩
  iapply (wp_load (c := (c : Thread nD τ)) 𝒱 none Set.univ (Finset.subset_univ _)) $$ [Hm]
  · iexact Hm
  iintro Hm
  iapply (le_wp_ret _ _ _ _ _)
  iapply HQ
  isplitl [Hm]; · iexact Hm
  iexact HG

/-- and a store into it. -/
theorem Does.write {G : sProp 𝕄} {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    {f : Buf Val (m.view.loc (c : Thread nD τ))} :
    Does defs 𝒱 c iprop((m.view.loc (c : Thread nD τ) ↦{fullShare} f) ∗ G) (Prog.lift (.store m r w Mk hx hm)) ⟨⟩
      iprop((m.view.loc (c : Thread nD τ) ↦{fullShare} ((m.access r).write Val f w Mk)) ∗ G) := fun Q => by
  iintro ⟨⟨Hm, HG⟩, HQ⟩
  iapply (wp_store (c := (c : Thread nD τ)) 𝒱 none Set.univ (hx := hx) (hm := hm) (Finset.subset_univ _)) $$ [Hm]
  · iexact Hm
  iintro Hm
  iapply (le_wp_ret _ _ _ _ _)
  iapply HQ
  isplitl [Hm]; · iexact Hm
  iexact HG

end Does

/-! ## The two rings side by side -/

section Two
variable {defs : Defs nD τ sig Val Λ} {𝒱 : Variants} (c : Dev nD)
  (psrc wsrc : Memref sig .tc .hbm SMat .f32) (pbuf wbuf : Memref sig .tc .vmem SRing .f32) (psems wsems : DmaSems sig SSems)
  (XP : Buf Val (psrc.view.loc (c : Thread nD τ))) (XW : Buf Val (wsrc.view.loc (c : Thread nD τ)))

/-- Before trip `k`; -/
def beforeP (k : ℕ) : sProp 𝕄 := iprop(ringP c psrc pbuf psems XP k ∗ ringP c wsrc wbuf wsems XW k ∗ owesP c)
/-- the first chunk waited for; -/
def awaitP (k : ℕ) : sProp 𝕄 :=
  iprop(ringP c wsrc wbuf wsems XW k ∗ owesP c ∗ tileP c psrc pbuf XP k ∗ midP c psrc pbuf psems XP k)
/-- both landed tiles, together with the rest `F`; -/
def tilesP (k : ℕ) (F : sProp 𝕄) : sProp 𝕄 := iprop(tileP c psrc pbuf XP k ∗ tileP c wsrc wbuf XW k ∗ F)
/-- the rest before and after the next chunks are started. -/
def midsP (k : ℕ) : sProp 𝕄 := iprop(midP c psrc pbuf psems XP k ∗ midP c wsrc wbuf wsems XW k ∗ owesP c)
def latesP (k : ℕ) : sProp 𝕄 := iprop(lateP c psrc pbuf psems XP k ∗ lateP c wsrc wbuf wsems XW k ∗ owesP c)

theorem lates_before (k : ℕ) :
    (tilesP c psrc wsrc pbuf wbuf XP XW k (latesP c psrc wsrc pbuf wbuf psems wsems XP XW k) : sProp 𝕄)
      ⊢ beforeP c psrc wsrc pbuf wbuf psems wsems XP XW (k + 1) := by
  unfold tilesP latesP beforeP
  iintro ⟨TP, TW, LP, LW, HW⟩
  isplitl [TP LP]
  · iapply (late_ring c psrc pbuf psems XP k)
    isplitl [TP]; · iexact TP
    iexact LP
  isplitl [TW LW]
  · iapply (late_ring c wsrc wbuf wsems XW k)
    isplitl [TW]; · iexact TW
    iexact LW
  iexact HW

variable {c psrc wsrc pbuf wbuf psems wsems XP XW}

/-- Trip `k`'s two waits. -/
theorem await_fst {k : ℕ} (hk : k < 32) {o1 : Fin 1 → Nat} {o2 : Fin 3 → Nat}
    (h1 : o1 = ![(Ring.sl 5 k).val]) (h2 : o2 = ![(Ring.sl 5 k).val, 0, 0])
    {i1 : ∀ a, o1 a + SSem1.size a ≤ SSems.size a} {i2 : ∀ a, o2 a + SSlot.size a ≤ SRing.size a}
    {q1 : SSem1.Squeezes SSem} {q2 : SSlot.Squeezes SChunk} {g2} {srcw : Memref sig .tc .hbm SChunk .f32} {hsrc hdst} :
    Does defs 𝒱 c (beforeP c psrc wsrc pbuf wbuf psems wsems XP XW k)
      (Prog.lift (.waitDma2 ((psems.slice (Rect.unit (s := SSems) o1 SSem1.size i1)).squeeze SSem q1).sem srcw
              ((pbuf.slice (Rect.unit (s := SRing) o2 SSlot.size i2) g2).squeeze SChunk q2) hsrc hdst)) ⟨⟩
      (awaitP c psrc wsrc pbuf wbuf psems wsems XP XW k) := fun Q => by
  unfold beforeP awaitP
  iintro ⟨⟨A, B, HW⟩, HQ⟩
  iapply (wp_ringAwait c 𝒱 hk h1 h2) $$ [A HW]
  · isplitl [A]; · iexact A
    iexact HW
  iintro ⟨T, M, HW⟩
  iapply (le_wp_ret _ _ _ _ _)
  iapply HQ
  isplitl [B]; · iexact B
  isplitl [HW]; · iexact HW
  isplitl [T]; · iexact T
  iexact M

theorem await_snd {k : ℕ} (hk : k < 32) {o1 : Fin 1 → Nat} {o2 : Fin 3 → Nat}
    (h1 : o1 = ![(Ring.sl 5 k).val]) (h2 : o2 = ![(Ring.sl 5 k).val, 0, 0])
    {i1 : ∀ a, o1 a + SSem1.size a ≤ SSems.size a} {i2 : ∀ a, o2 a + SSlot.size a ≤ SRing.size a}
    {q1 : SSem1.Squeezes SSem} {q2 : SSlot.Squeezes SChunk} {g2} {srcw : Memref sig .tc .hbm SChunk .f32} {hsrc hdst} :
    Does defs 𝒱 c (awaitP c psrc wsrc pbuf wbuf psems wsems XP XW k)
      (Prog.lift (.waitDma2 ((wsems.slice (Rect.unit (s := SSems) o1 SSem1.size i1)).squeeze SSem q1).sem srcw
              ((wbuf.slice (Rect.unit (s := SRing) o2 SSlot.size i2) g2).squeeze SChunk q2) hsrc hdst)) ⟨⟩
      (tilesP c psrc wsrc pbuf wbuf XP XW k (midsP c psrc wsrc pbuf wbuf psems wsems XP XW k)) := fun Q => by
  unfold awaitP tilesP midsP
  iintro ⟨⟨A, HW, TP, MP⟩, HQ⟩
  iapply (wp_ringAwait c 𝒱 hk h1 h2) $$ [A HW]
  · isplitl [A]; · iexact A
    iexact HW
  iintro ⟨T, M, HW⟩
  iapply (le_wp_ret _ _ _ _ _)
  iapply HQ
  isplitl [TP]; · iexact TP
  isplitl [T]; · iexact T
  isplitl [MP]; · iexact MP
  isplitl [M]; · iexact M
  iexact HW

/-- The rest with the first ring's next chunk started. -/
def issuedP (c : Dev nD) (psrc wsrc : Memref sig .tc .hbm SMat .f32) (pbuf wbuf : Memref sig .tc .vmem SRing .f32) (psems wsems : DmaSems sig SSems)
    (XP : Buf Val (psrc.view.loc (c : Thread nD τ))) (XW : Buf Val (wsrc.view.loc (c : Thread nD τ))) (k : ℕ) : sProp 𝕄 :=
  iprop(lateP c psrc pbuf psems XP k ∗ midP c wsrc wbuf wsems XW k ∗ owesP c)

/-- Trip `k`'s two starts. -/
theorem issue_fst {k : ℕ} (hk : k + 4 < 32) {o1 : Fin 1 → Nat} {o2 : Fin 3 → Nat} {o3 : Fin 2 → Nat}
    (h1 : o1 = ![(Ring.sl 5 (k + 4)).val]) (h2 : o2 = ![(Ring.sl 5 (k + 4)).val, 0, 0]) (h3 : o3 = ![256 * (Ring.bk 32 (k + 4)).val, 0])
    {i1 : ∀ a, o1 a + SSem1.size a ≤ SSems.size a} {i2 : ∀ a, o2 a + SSlot.size a ≤ SRing.size a}
    {i3 : ∀ a, o3 a + SChunk.size a ≤ SMat.size a} {q1 : SSem1.Squeezes SSem} {q2 : SSlot.Squeezes SChunk} {g2 g3} {hsrc hdst hsem} :
    Does defs 𝒱 c (tilesP c psrc wsrc pbuf wbuf XP XW k (midsP c psrc wsrc pbuf wbuf psems wsems XP XW k))
      (Prog.lift (.enqueueDma (psrc.slice (Rect.unit (s := SMat) o3 SChunk.size i3) g3)
              (.here ((pbuf.slice (Rect.unit (s := SRing) o2 SSlot.size i2) g2).squeeze SChunk q2))
              (.dma ((psems.slice (Rect.unit (s := SSems) o1 SSem1.size i1)).squeeze SSem q1).sem) hsrc hdst hsem)) ⟨⟩
      (tilesP c psrc wsrc pbuf wbuf XP XW k (issuedP c psrc wsrc pbuf wbuf psems wsems XP XW k)) := fun Q => by
  unfold tilesP midsP issuedP
  iintro ⟨⟨TP, TW, MP, MW, HW⟩, HQ⟩
  iapply (wp_ringIssue c 𝒱 hk h1 h2 h3) $$ [MP]
  · iexact MP
  iintro MP
  iapply (le_wp_ret _ _ _ _ _)
  iapply HQ
  isplitl [TP]; · iexact TP
  isplitl [TW]; · iexact TW
  isplitl [MP]; · iexact MP
  isplitl [MW]; · iexact MW
  iexact HW

theorem issue_snd {k : ℕ} (hk : k + 4 < 32) {o1 : Fin 1 → Nat} {o2 : Fin 3 → Nat} {o3 : Fin 2 → Nat}
    (h1 : o1 = ![(Ring.sl 5 (k + 4)).val]) (h2 : o2 = ![(Ring.sl 5 (k + 4)).val, 0, 0]) (h3 : o3 = ![256 * (Ring.bk 32 (k + 4)).val, 0])
    {i1 : ∀ a, o1 a + SSem1.size a ≤ SSems.size a} {i2 : ∀ a, o2 a + SSlot.size a ≤ SRing.size a}
    {i3 : ∀ a, o3 a + SChunk.size a ≤ SMat.size a} {q1 : SSem1.Squeezes SSem} {q2 : SSlot.Squeezes SChunk} {g2 g3} {hsrc hdst hsem} :
    Does defs 𝒱 c (tilesP c psrc wsrc pbuf wbuf XP XW k (issuedP c psrc wsrc pbuf wbuf psems wsems XP XW k))
      (Prog.lift (.enqueueDma (wsrc.slice (Rect.unit (s := SMat) o3 SChunk.size i3) g3)
              (.here ((wbuf.slice (Rect.unit (s := SRing) o2 SSlot.size i2) g2).squeeze SChunk q2))
              (.dma ((wsems.slice (Rect.unit (s := SSems) o1 SSem1.size i1)).squeeze SSem q1).sem) hsrc hdst hsem)) ⟨⟩
      (tilesP c psrc wsrc pbuf wbuf XP XW k (latesP c psrc wsrc pbuf wbuf psems wsems XP XW k)) := fun Q => by
  unfold tilesP latesP issuedP
  iintro ⟨⟨TP, TW, MP, MW, HW⟩, HQ⟩
  iapply (wp_ringIssue c 𝒱 hk h1 h2 h3) $$ [MW]
  · iexact MW
  iintro MW
  iapply (le_wp_ret _ _ _ _ _)
  iapply HQ
  isplitl [TP]; · iexact TP
  isplitl [TW]; · iexact TW
  isplitl [MP]; · iexact MP
  isplitl [MW]; · iexact MW
  iexact HW

/-- Nothing left to start. -/
theorem issue_none {k : ℕ} (hk : k < 32) (h : ¬ k + 4 < 32) {α : Type} {p : Prog (TpuEff nD τ sig Val Λ .tc) α} {v : α} {R : sProp 𝕄}
    (hp : Does defs 𝒱 c (tilesP c psrc wsrc pbuf wbuf XP XW k (latesP c psrc wsrc pbuf wbuf psems wsems XP XW k)) p v R) :
    Does defs 𝒱 c (tilesP c psrc wsrc pbuf wbuf XP XW k (midsP c psrc wsrc pbuf wbuf psems wsems XP XW k)) p v R := by
  refine hp.conseq ?_ .rfl
  unfold tilesP midsP latesP
  iintro ⟨TP, TW, MP, MW, HW⟩
  isplitl [TP]; · iexact TP
  isplitl [TW]; · iexact TW
  isplitl [MP]; · iapply (mid_late c psrc pbuf psems XP hk (by omega)); iexact MP
  isplitl [MW]; · iapply (mid_late c wsrc wbuf wsems XW hk (by omega)); iexact MW
  iexact HW

/-- A load of a tile of the first landed chunk; -/
theorem load_fst {k : ℕ} {F : sProp 𝕄} {o : Fin 3 → Nat} {r cc : ℕ} (h : o = ![(Ring.sl 5 k).val, r, cc])
    {i : ∀ a, o a + STile.size a ≤ SRing.size a} {hl} :
    Does defs 𝒱 c (tilesP c psrc wsrc pbuf wbuf XP XW k F)
      (Prog.lift (.load pbuf (Rect.unit (s := SRing) o STile.size i).toLoadRect hl)) (tileOf (words c psrc XP (Ring.bk 32 k)) r cc)
      (tilesP c psrc wsrc pbuf wbuf XP XW k F) := fun Q => by
  unfold tilesP tileP
  iintro ⟨⟨Hp, Hw⟩, HQ⟩
  iapply (wp_tile 𝒱 c h) $$ [Hp]
  · iexact Hp
  iintro Hp
  iapply (le_wp_ret _ _ _ _ _)
  iapply HQ
  isplitl [Hp]; · iexact Hp
  iexact Hw

/-- and of the second. -/
theorem load_snd {k : ℕ} {F : sProp 𝕄} {o : Fin 3 → Nat} {r cc : ℕ} (h : o = ![(Ring.sl 5 k).val, r, cc])
    {i : ∀ a, o a + STile.size a ≤ SRing.size a} {hl} :
    Does defs 𝒱 c (tilesP c psrc wsrc pbuf wbuf XP XW k F)
      (Prog.lift (.load wbuf (Rect.unit (s := SRing) o STile.size i).toLoadRect hl)) (tileOf (words c wsrc XW (Ring.bk 32 k)) r cc)
      (tilesP c psrc wsrc pbuf wbuf XP XW k F) := fun Q => by
  unfold tilesP tileP
  iintro ⟨⟨Hp, Hw, HF⟩, HQ⟩
  iapply (wp_tile 𝒱 c h) $$ [Hw]
  · iexact Hw
  iintro Hw
  iapply (le_wp_ret _ _ _ _ _)
  iapply HQ
  isplitl [Hp]; · iexact Hp
  isplitl [Hw]; · iexact Hw
  iexact HF

end Two

/-! ## The first four chunks of both rings -/

section Start
variable {defs : Defs nD τ sig Val Λ} {𝒱 : Variants} (c : Dev nD) (src : Memref sig .tc .hbm SMat .f32)
  (buf : Memref sig .tc .vmem SRing .f32) (sems : DmaSems sig SSems) (X : Buf Val (src.view.loc (c : Thread nD τ)))

/-- Chunk `b` and slot `s`, once `j` chunks are started: on the way, or both at rest. -/
def firstP (j : ℕ) (s : Fin 5) (b : Fin 32) : sProp 𝕄 :=
  if b.val < j then flightP c src buf sems X s b else iprop(homeP c src X b ∗ freeP c buf sems s)
/-- The ring once `j ≤ 4` chunks are started. -/
def startP (j : ℕ) : sProp 𝕄 :=
  iprop(firstP c src buf sems X j 0 0 ∗ firstP c src buf sems X j 1 1 ∗ firstP c src buf sems X j 2 2 ∗ firstP c src buf sems X j 3 3
    ∗ homesP c src X (Ring.homeSet 4 0) ∗ freeP c buf sems 4)

theorem rest_start : (restP c src buf sems X : sProp 𝕄) ⊢ startP c src buf sems X 0 := by
  unfold restP startP firstP
  rw [homes_first]
  simp only [Nat.not_lt_zero, if_false]
  iintro ⟨⟨A, B, C, D, H⟩, FA, FB, FC, FD, FE⟩
  isplitl [A FA]
  · isplitl [A]; · iexact A
    iexact FA
  isplitl [B FB]
  · isplitl [B]; · iexact B
    iexact FB
  isplitl [C FC]
  · isplitl [C]; · iexact C
    iexact FC
  isplitl [D FD]
  · isplitl [D]; · iexact D
    iexact FD
  isplitl [H]; · iexact H
  iexact FE

theorem start_ring : (startP c src buf sems X 4 : sProp 𝕄) ⊢ ringP c src buf sems X 0 := by
  unfold startP firstP
  rw [if_pos (by decide), if_pos (by decide), if_pos (by decide), if_pos (by decide)]
  iintro ⟨A, B, C, D, H, F⟩
  iapply (first_ring c src buf sems X)
  isplitl [H]; · iexact H
  isplitl [A]; · iexact A
  isplitl [B]; · iexact B
  isplitl [C]; · iexact C
  isplitl [D]; · iexact D
  iexact F

theorem first_eq (j : ℕ) (s : Fin 5) (b : Fin 32) (h : b.val ≠ j) :
    (firstP c src buf sems X j s b : sProp 𝕄) = firstP c src buf sems X (j + 1) s b := by
  unfold firstP
  by_cases hb : b.val < j
  · rw [if_pos hb, if_pos (by omega)]
  · rw [if_neg hb, if_neg (by omega)]

/-- The chunk and slot numbered `j`, apart from the rest. -/
theorem start_split (j : ℕ) (hj : j < 4) :
    (startP c src buf sems X j : sProp 𝕄) ⊢ iprop((homeP c src X (Ring.bk 32 j) ∗ freeP c buf sems (Ring.sl 5 j))
      ∗ (flightP c src buf sems X (Ring.sl 5 j) (Ring.bk 32 j) -∗ startP c src buf sems X (j + 1))) := by
  unfold startP
  have hn : ∀ (s : Fin 5) (b : Fin 32), b.val = j → (firstP c src buf sems X j s b : sProp 𝕄) = iprop(homeP c src X b ∗ freeP c buf sems s) :=
    fun s b h => if_neg (by omega)
  have hy : ∀ (s : Fin 5) (b : Fin 32), b.val = j → (firstP c src buf sems X (j + 1) s b : sProp 𝕄) = flightP c src buf sems X s b :=
    fun s b h => if_pos (by omega)
  interval_cases j
  · rw [hn 0 0 rfl, hy 0 0 rfl, first_eq c src buf sems X 0 1 1 (by decide), first_eq c src buf sems X 0 2 2 (by decide), first_eq c src buf sems X 0 3 3 (by decide)]
    iintro ⟨A, R⟩
    isplitl [A]; · iexact A
    iintro A
    isplitl [A]; · iexact A
    iexact R
  · rw [hn 1 1 rfl, hy 1 1 rfl, first_eq c src buf sems X 1 0 0 (by decide), first_eq c src buf sems X 1 2 2 (by decide), first_eq c src buf sems X 1 3 3 (by decide)]
    iintro ⟨B, A, R⟩
    isplitl [A]; · iexact A
    iintro A
    isplitl [B]; · iexact B
    isplitl [A]; · iexact A
    iexact R
  · rw [hn 2 2 rfl, hy 2 2 rfl, first_eq c src buf sems X 2 0 0 (by decide), first_eq c src buf sems X 2 1 1 (by decide), first_eq c src buf sems X 2 3 3 (by decide)]
    iintro ⟨B, C, A, R⟩
    isplitl [A]; · iexact A
    iintro A
    isplitl [B]; · iexact B
    isplitl [C]; · iexact C
    isplitl [A]; · iexact A
    iexact R
  · rw [hn 3 3 rfl, hy 3 3 rfl, first_eq c src buf sems X 3 0 0 (by decide), first_eq c src buf sems X 3 1 1 (by decide), first_eq c src buf sems X 3 2 2 (by decide)]
    iintro ⟨B, C, D, A, R⟩
    isplitl [A]; · iexact A
    iintro A
    isplitl [B]; · iexact B
    isplitl [C]; · iexact C
    isplitl [D]; · iexact D
    isplitl [A]; · iexact A
    iexact R

variable {c src buf sems X}

/-- The start of chunk `j` of the first four, holding `G` and `F` beside the ring: `G`, the other ring, comes to the front. -/
theorem start_issue {j : ℕ} (hj : j < 4) {G F : sProp 𝕄} {o1 : Fin 1 → Nat} {o2 : Fin 3 → Nat} {o3 : Fin 2 → Nat}
    (h1 : o1 = ![(Ring.sl 5 j).val]) (h2 : o2 = ![(Ring.sl 5 j).val, 0, 0]) (h3 : o3 = ![256 * (Ring.bk 32 j).val, 0])
    {i1 : ∀ a, o1 a + SSem1.size a ≤ SSems.size a} {i2 : ∀ a, o2 a + SSlot.size a ≤ SRing.size a}
    {i3 : ∀ a, o3 a + SChunk.size a ≤ SMat.size a} {q1 : SSem1.Squeezes SSem} {q2 : SSlot.Squeezes SChunk} {g2 g3}
    {hsrc hdst hsem} :
    Does defs 𝒱 c iprop(startP c src buf sems X j ∗ G ∗ F)
      (Prog.lift (.enqueueDma (src.slice (Rect.unit (s := SMat) o3 SChunk.size i3) g3)
              (.here ((buf.slice (Rect.unit (s := SRing) o2 SSlot.size i2) g2).squeeze SChunk q2))
              (.dma ((sems.slice (Rect.unit (s := SSems) o1 SSem1.size i1)).squeeze SSem q1).sem) hsrc hdst hsem)) ⟨⟩
      iprop(G ∗ startP c src buf sems X (j + 1) ∗ F) := fun Q => by
  iintro ⟨⟨HS, HG, HF⟩, HQ⟩
  ihave HS' := (start_split c src buf sems X j hj) $$ HS
  icases HS' with ⟨⟨Hh, Hf⟩, HK⟩
  iapply (wp_issue 𝒱 c h1 h2 h3) $$ [Hh Hf]
  · isplitl [Hh]; · iexact Hh
    iexact Hf
  iintro Hfl
  iapply (le_wp_ret _ _ _ _ _)
  iapply HQ
  isplitl [HG]; · iexact HG
  isplitr [HF]; · iapply HK; iexact Hfl
  iexact HF

end Start

/-! ## The offsets of trip `k` -/

section Offsets

theorem slot_word : ∀ k : Fin 32, (Scalar.remsi (Scf.iv 0#32 1#32 k.val) 5#32).toNat = k.val % 5 := by decide
theorem index_word : ∀ k : Fin 32, (Scalar.indexCast (Scalar.remsi (Scf.iv 0#32 1#32 k.val) 5#32)).toNat = k.val % 5 := by decide
theorem next_word : ∀ k : Fin 32, (Scalar.remsi (Scalar.addi (Scf.iv 0#32 1#32 k.val) 4#32) 5#32).toNat = (k.val + 4) % 5 := by decide
theorem row_word : ∀ k : Fin 32, (Scalar.muli (Scalar.addi (Scf.iv 0#32 1#32 k.val) 4#32) 256#32).toNat = 256 * (k.val + 4) := by decide
theorem more_word : ∀ k : Fin 32,
    Iff (Scalar.cmpi .ne (Scalar.extui (Scalar.cmpi .slt (Scalar.addi (Scf.iv 0#32 1#32 k.val) 4#32) 32#32) : BitVec 32) 0#32 = 1#1) (k.val + 4 < 32) := by decide

variable {k : ℕ} (hk : k < 32)
include hk

/-- The slot of trip `k`, as an offset among the semaphores, in the ring buffer, and of a tile in it; -/
theorem off_sem : ![(Scalar.remsi (Scf.iv 0#32 1#32 k) 5#32).toNat] = ![(Ring.sl 5 k).val] := by
  rw [slot_word ⟨k, hk⟩]; rfl
theorem off_slot : ![(Scalar.remsi (Scf.iv 0#32 1#32 k) 5#32).toNat, 0, 0] = ![(Ring.sl 5 k).val, 0, 0] := by
  rw [slot_word ⟨k, hk⟩]; rfl
theorem off_tile (r cc : ℕ) : ![(Scalar.indexCast (Scalar.remsi (Scf.iv 0#32 1#32 k) 5#32)).toNat, r, cc] = ![(Ring.sl 5 k).val, r, cc] := by
  rw [index_word ⟨k, hk⟩]; rfl
/-- the slot the trip starts a transfer into, and the chunk it starts. -/
theorem off_sem_next : ![(Scalar.remsi (Scalar.addi (Scf.iv 0#32 1#32 k) 4#32) 5#32).toNat] = ![(Ring.sl 5 (k + 4)).val] := by
  rw [next_word ⟨k, hk⟩]; rfl
theorem off_slot_next : ![(Scalar.remsi (Scalar.addi (Scf.iv 0#32 1#32 k) 4#32) 5#32).toNat, 0, 0] = ![(Ring.sl 5 (k + 4)).val, 0, 0] := by
  rw [next_word ⟨k, hk⟩]; rfl
theorem off_row_next (h : k + 4 < 32) :
    ![(Scalar.muli (Scalar.addi (Scf.iv 0#32 1#32 k) 4#32) 256#32).toNat, 0] = ![256 * (Ring.bk 32 (k + 4)).val, 0] := by
  rw [row_word ⟨k, hk⟩, Ring.bk_val h]

end Offsets

end Cert.JsdRing

end
-- ==== Proof.KernelIdealTrip.lean ====
/-
  One trip of the kernel's loop: it waits for the chunk of each operand in the trip's slot, starts the chunk four further
  on (while there is one), and adds the chunk's 128 tiles of 8 by 1024 entries into the carried accumulator.
-/
module

public import proofs.«01_k».proof.Proof.StreamRing
public import proofs.«01_k».proof.Proof.Gen.KernelIdeal.Skeleton

@[expose] public section

noncomputable section

namespace Cert.KernelIdeal.Ring

open Cert.KernelIdeal Cert.KernelIdeal.Gen Cert.JsdRing
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F] [Named F]

abbrev 𝒱₀ : Variants := Variants.none

/-- What one tile of each operand adds to the accumulator. -/
def piece (acc : FVec F S8x1024 .f32) (p w : Vec F S1x8x1024 .f32) : FVec F S8x1024 .f32 :=
  have tp : FVec F S8x1024 .f32 := shapeCast S8x1024 p shapeCasts_S1x8x1024_S8x1024
  have tw : FVec F S8x1024 .f32 := shapeCast S8x1024 w shapeCasts_S1x8x1024_S8x1024
  have s : FVec F S8x1024 .f32 := addf tw tp
  have tiny : FVec F S8x1024 .f32 := broadcast S8x1024 (Scalar.ofBits .f32 0x0DA24260#32)
  addf acc (addf (addf (mulf tw (log (maximumf tw tiny))) (mulf tp (log (maximumf tp tiny))))
    (mulf s (subf (broadcast S8x1024 (Named.named κ "ln2" 0x3F317218#32)) (log (maximumf s tiny)))))

/-- What one chunk of each operand adds: its tiles in order, row block by row block. -/
def trip (p w : S256x4096.Idx → F .f32) (acc : FVec F S8x1024 .f32) : FVec F S8x1024 .f32 :=
  (List.range 128).foldl (fun a j => piece a (tileOf p (8 * (j / 4)) (1024 * (j % 4))) (tileOf w (8 * (j / 4)) (1024 * (j % 4)))) acc

theorem trips_eq : k0_t1_loop.trips = 32 := by decide

attribute [local irreducible] Does

section Trip
variable {c : Dev nD} {i : grid0.Coords} {arg1 : Memref sig .tc .hbm S8192x4096 .f32} {harg1 : arg1.IsWhole}
  {arg2 : Memref sig .tc .hbm S8192x4096 .f32} {harg2 : arg2.IsWhole} {arg3 : Memref sig .tc .vmem S1x1 .f32} {harg3 : arg3.IsWhole}
  {arg4 : Memref sig .tc .vmem S5x256x4096 .f32} {harg4 : arg4.IsWhole} {arg5 : Memref sig .tc .vmem S5x256x4096 .f32} {harg5 : arg5.IsWhole}
  {arg6 arg7 : DmaSems sig S5}
  {XP : Buf (Elt F) (arg1.view.loc (c : Thread nD τ))} {XW : Buf (Elt F) (arg2.view.loc (c : Thread nD τ))}

set_option maxHeartbeats 4000000 in
set_option maxRecDepth 65536 in
/-- Trip `k` takes the rings from before trip `k` to before trip `k + 1`, and adds chunk `k`. -/
theorem trip_does (k : Fin k0_t1_loop.trips) (acc : FVec F S8x1024 .f32) :
    Does defs₀ 𝒱₀ c (beforeP c arg1 arg2 arg4 arg5 arg6 arg7 XP XW k.val)
      (k0_t1_body (F := F) i arg1 harg1 arg2 harg2 arg3 harg3 arg4 harg4 arg5 harg5 arg6 arg7 k acc)
      (trip (words c arg1 XP (Idealize.ShloMosaic.Ring.bk 32 k.val)) (words c arg2 XW (Idealize.ShloMosaic.Ring.bk 32 k.val)) acc)
      (beforeP c arg1 arg2 arg4 arg5 arg6 arg7 XP XW (k.val + 1)) := by
  have hk : k.val < 32 := Nat.lt_of_lt_of_eq k.isLt trips_eq
  apply Does.eq
  · apply Does.conseq (hP := .rfl) (hR := lates_before c arg1 arg2 arg4 arg5 arg6 arg7 XP XW k.val)
    unfold k0_t1_body k0_part69
    rw [k0_part1_eq_skeleton]
    apply Does.bind
    · apply Does.bind
      · unfold k0_part1_skel
        apply Does.bind
        · exact await_fst hk (off_sem hk) (off_slot hk)
        apply Does.bind
        · exact await_snd hk (off_sem hk) (off_slot hk)
        by_cases h : k.val + 4 < 32
        · have hc : k0_cond1 k = 1#1 := (more_word ⟨k.val, hk⟩).mpr h
          dsimp only
          rw [dif_pos hc]
          apply Does.bind
          · exact issue_fst h (off_sem_next hk) (off_slot_next hk) (off_row_next hk h)
          apply Does.bind
          · exact issue_snd h (off_sem_next hk) (off_slot_next hk) (off_row_next hk h)
          apply Does.bind
          · exact load_fst (off_tile hk _ _)
          apply Does.bind
          · exact load_snd (off_tile hk _ _)
          apply Does.ret
        · have hc : ¬ k0_cond1 k = 1#1 := fun e => h ((more_word ⟨k.val, hk⟩).mp e)
          dsimp only
          rw [dif_neg hc]
          apply issue_none hk h
          apply Does.bind
          · exact load_fst (off_tile hk _ _)
          apply Does.bind
          · exact load_snd (off_tile hk _ _)
          apply Does.ret
      · repeat
          first
          | apply Does.ret
          | apply Does.bind
            · first
              | rw [k0_part2_eq_skeleton, k0_part2_skel]
              | rw [k0_part3_eq_skeleton, k0_part3_skel]
              | rw [k0_part4_eq_skeleton, k0_part4_skel]
              | rw [k0_part5_eq_skeleton, k0_part5_skel]
              | rw [k0_part6_eq_skeleton, k0_part6_skel]
              | rw [k0_part7_eq_skeleton, k0_part7_skel]
              | rw [k0_part8_eq_skeleton, k0_part8_skel]
              | rw [k0_part9_eq_skeleton, k0_part9_skel]
              | rw [k0_part10_eq_skeleton, k0_part10_skel]
              | rw [k0_part11_eq_skeleton, k0_part11_skel]
              | rw [k0_part12_eq_skeleton, k0_part12_skel]
              | rw [k0_part13_eq_skeleton, k0_part13_skel]
              | rw [k0_part14_eq_skeleton, k0_part14_skel]
              | rw [k0_part15_eq_skeleton, k0_part15_skel]
              | rw [k0_part16_eq_skeleton, k0_part16_skel]
              | rw [k0_part17_eq_skeleton, k0_part17_skel]
              | rw [k0_part18_eq_skeleton, k0_part18_skel]
              | rw [k0_part19_eq_skeleton, k0_part19_skel]
              | rw [k0_part20_eq_skeleton, k0_part20_skel]
              | rw [k0_part21_eq_skeleton, k0_part21_skel]
              | rw [k0_part22_eq_skeleton, k0_part22_skel]
              | rw [k0_part23_eq_skeleton, k0_part23_skel]
              | rw [k0_part24_eq_skeleton, k0_part24_skel]
              | rw [k0_part25_eq_skeleton, k0_part25_skel]
              | rw [k0_part26_eq_skeleton, k0_part26_skel]
              | rw [k0_part27_eq_skeleton, k0_part27_skel]
              | rw [k0_part28_eq_skeleton, k0_part28_skel]
              | rw [k0_part29_eq_skeleton, k0_part29_skel]
              | rw [k0_part30_eq_skeleton, k0_part30_skel]
              | rw [k0_part31_eq_skeleton, k0_part31_skel]
              | rw [k0_part32_eq_skeleton, k0_part32_skel]
              | rw [k0_part33_eq_skeleton, k0_part33_skel]
              | rw [k0_part34_eq_skeleton, k0_part34_skel]
              | rw [k0_part35_eq_skeleton, k0_part35_skel]
              | rw [k0_part36_eq_skeleton, k0_part36_skel]
              | rw [k0_part37_eq_skeleton, k0_part37_skel]
              | rw [k0_part38_eq_skeleton, k0_part38_skel]
              | rw [k0_part39_eq_skeleton, k0_part39_skel]
              | rw [k0_part40_eq_skeleton, k0_part40_skel]
              | rw [k0_part41_eq_skeleton, k0_part41_skel]
              | rw [k0_part42_eq_skeleton, k0_part42_skel]
              | rw [k0_part43_eq_skeleton, k0_part43_skel]
              | rw [k0_part44_eq_skeleton, k0_part44_skel]
              | rw [k0_part45_eq_skeleton, k0_part45_skel]
              | rw [k0_part46_eq_skeleton, k0_part46_skel]
              | rw [k0_part47_eq_skeleton, k0_part47_skel]
              | rw [k0_part48_eq_skeleton, k0_part48_skel]
              | rw [k0_part49_eq_skeleton, k0_part49_skel]
              | rw [k0_part50_eq_skeleton, k0_part50_skel]
              | rw [k0_part51_eq_skeleton, k0_part51_skel]
              | rw [k0_part52_eq_skeleton, k0_part52_skel]
              | rw [k0_part53_eq_skeleton, k0_part53_skel]
              | rw [k0_part54_eq_skeleton, k0_part54_skel]
              | rw [k0_part55_eq_skeleton, k0_part55_skel]
              | rw [k0_part56_eq_skeleton, k0_part56_skel]
              | rw [k0_part57_eq_skeleton, k0_part57_skel]
              | rw [k0_part58_eq_skeleton, k0_part58_skel]
              | rw [k0_part59_eq_skeleton, k0_part59_skel]
              | rw [k0_part60_eq_skeleton, k0_part60_skel]
              | skip
              repeat (first | apply Does.ret | exact load_fst (off_tile hk _ _) | exact load_snd (off_tile hk _ _) | (apply Does.bind; first | exact load_fst (off_tile hk _ _) | exact load_snd (off_tile hk _ _)))
            try dsimp only
    · repeat
        first
        | apply Does.ret
        | apply Does.bind
          · first
            | rw [k0_part61_eq_skeleton, k0_part61_skel]
            | rw [k0_part62_eq_skeleton, k0_part62_skel]
            | rw [k0_part63_eq_skeleton, k0_part63_skel]
            | rw [k0_part64_eq_skeleton, k0_part64_skel]
            | rw [k0_part65_eq_skeleton, k0_part65_skel]
            | rw [k0_part66_eq_skeleton, k0_part66_skel]
            | rw [k0_part67_eq_skeleton, k0_part67_skel]
            | rw [k0_part68_eq_skeleton, k0_part68_skel]
            | skip
            repeat (first | apply Does.ret | exact load_fst (off_tile hk _ _) | exact load_snd (off_tile hk _ _) | (apply Does.bind; first | exact load_fst (off_tile hk _ _) | exact load_snd (off_tile hk _ _)))
          try dsimp only
  · rfl

end Trip

end Cert.KernelIdeal.Ring

end
-- ==== Proof.KernelIdealBody.lean ====
/-
  The kernel's body: the first four chunks of each operand started, the 32 trips, and the stored total.
-/
module

public import proofs.«01_k».proof.Proof.KernelIdealTrip
public import Idealize.ShloMosaic.Lib.VecWindow

@[expose] public section

noncomputable section

namespace Cert.KernelIdeal.Ring

open Cert.KernelIdeal Cert.KernelIdeal.Gen Cert.JsdRing
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F] [Named F]

/-- The accumulator after the first `k` chunks of two arrays given by their chunks. -/
def accAt (p w : Fin 32 → S256x4096.Idx → F .f32) : ℕ → FVec F S8x1024 .f32
  | 0 => k0_pay1 (F := F)
  | k + 1 => trip (p (Idealize.ShloMosaic.Ring.bk 32 k)) (w (Idealize.ShloMosaic.Ring.bk 32 k)) (accAt p w k)

attribute [local irreducible] Does

section Body
variable {c : Dev nD} {i : grid0.Coords} {arg1 : Memref sig .tc .hbm S8192x4096 .f32} {harg1 : arg1.IsWhole}
  {arg2 : Memref sig .tc .hbm S8192x4096 .f32} {harg2 : arg2.IsWhole} {arg3 : Memref sig .tc .vmem S1x1 .f32} {harg3 : arg3.IsWhole}
  {arg4 : Memref sig .tc .vmem S5x256x4096 .f32} {harg4 : arg4.IsWhole} {arg5 : Memref sig .tc .vmem S5x256x4096 .f32} {harg5 : arg5.IsWhole}
  {arg6 arg7 : DmaSems sig S5}
  {XP : Buf (Elt F) (arg1.view.loc (c : Thread nD τ))} {XW : Buf (Elt F) (arg2.view.loc (c : Thread nD τ))}

/-- The kernel takes both rings at rest and the output's buffer at anything; it leaves the rings at rest and the buffer
    at the scaled total of the accumulator after all 32 chunks. -/
theorem body_does (f : Buf (Elt F) (arg3.view.loc (c : Thread nD τ))) :
    Does defs₀ 𝒱₀ c iprop(restP c arg1 arg4 arg6 XP ∗ restP c arg2 arg5 arg7 XW ∗ owesP c ∗ (arg3.view.loc (c : Thread nD τ) ↦{fullShare} f))
      (cc0__jsd_ring_kernel (F := F) i arg1 harg1 arg2 harg2 arg3 harg3 arg4 harg4 arg5 harg5 arg6 arg7) ⟨⟩
      iprop(restP c arg1 arg4 arg6 XP ∗ restP c arg2 arg5 arg7 XW ∗ owesP c
        ∗ ∃ g, ⌜arg3.view.read (Elt F) g = k0_pay3 (accAt (words c arg1 XP) (words c arg2 XW) 32)⌝ ∗ (arg3.view.loc (c : Thread nD τ) ↦{fullShare} g)) := by
  rw [cc0__jsd_ring_kernel_eq_skeleton]
  unfold cc0__jsd_ring_kernel_skel
  rw [k0_part70_eq_skeleton]
  unfold k0_part70_skel
  apply Does.conseq
    (P := iprop(startP c arg1 arg4 arg6 XP 0 ∗ startP c arg2 arg5 arg7 XW 0 ∗ owesP c ∗ (arg3.view.loc (c : Thread nD τ) ↦{fullShare} f)))
    (R := iprop((arg3.view.loc (c : Thread nD τ) ↦{fullShare} _) ∗ beforeP c arg1 arg2 arg4 arg5 arg6 arg7 XP XW 32))
  · apply Does.bind
    · apply Does.bind
      · exact start_issue (j := 0) (by decide) rfl rfl rfl
      apply Does.bind
      · exact start_issue (j := 0) (by decide) rfl rfl rfl
      apply Does.bind
      · exact start_issue (j := 1) (by decide) rfl rfl rfl
      apply Does.bind
      · exact start_issue (j := 1) (by decide) rfl rfl rfl
      apply Does.ret
    dsimp only
    apply Does.bind
    · exact start_issue (j := 2) (by decide) rfl rfl rfl
    apply Does.bind
    · exact start_issue (j := 2) (by decide) rfl rfl rfl
    apply Does.bind
    · exact start_issue (j := 3) (by decide) rfl rfl rfl
    apply Does.bind
    · exact start_issue (j := 3) (by decide) rfl rfl rfl
    apply Does.bind
    · apply Does.conseq (R := iprop(beforeP c arg1 arg2 arg4 arg5 arg6 arg7 XP XW 32 ∗ (arg3.view.loc (c : Thread nD τ) ↦{fullShare} f)))
        (P := iprop(beforeP c arg1 arg2 arg4 arg5 arg6 arg7 XP XW 0 ∗ (arg3.view.loc (c : Thread nD τ) ↦{fullShare} f)))
        (R' := iprop((arg3.view.loc (c : Thread nD τ) ↦{fullShare} f) ∗ beforeP c arg1 arg2 arg4 arg5 arg6 arg7 XP XW 32))
      · apply Does.frame
        exact Does.loop k0_t1_ok (fun k => beforeP c arg1 arg2 arg4 arg5 arg6 arg7 XP XW k) (accAt (words c arg1 XP) (words c arg2 XW))
          (fun k => trip_does k _)
      · unfold beforeP
        iintro ⟨HP, HW, Ho, Hf⟩
        isplitr [Hf]
        · isplitl [HP]; · iapply (start_ring c arg1 arg4 arg6 XP); iexact HP
          isplitl [HW]; · iapply (start_ring c arg2 arg5 arg7 XW); iexact HW
          iexact Ho
        iexact Hf
      · iintro ⟨HB, Hf⟩
        isplitl [Hf]; · iexact Hf
        iexact HB
    apply Does.bind
    · exact Does.read
    apply Does.bind
    · exact Does.write
    apply Does.ret
  · iintro ⟨HP, HW, H⟩
    isplitl [HP]; · iapply (rest_start c arg1 arg4 arg6 XP); iexact HP
    isplitl [HW]; · iapply (rest_start c arg2 arg5 arg7 XW); iexact HW
    iexact H
  · unfold beforeP
    iintro ⟨Hf, HP, HW, Ho⟩
    isplitl [HP]; · iapply (ring_last c arg1 arg4 arg6 XP); iexact HP
    isplitl [HW]; · iapply (ring_last c arg2 arg5 arg7 XW); iexact HW
    isplitl [Ho]; · iexact Ho
    iexists _
    isplitr
    · ipureintro
      exact View.read_writes_full arg3.view f inb_S1x1_S1x1_0_0 _ []
    iexact Hf

end Body

end Cert.KernelIdeal.Ring

end
-- ==== Proof.KernelIdealRun.lean ====
/-
  The kernel's launch: the proof data of its one region, the region's body, and the run of the whole program.
-/
module

public import proofs.«01_k».proof.Proof.KernelIdealBody
public import proofs.«01_k».proof.Proof.Gen.KernelIdeal.Frame
public import Idealize.ShloMosaic.Lib.Pipeline.FrameSuffix
public import Idealize.ShloMosaic.Lib.Pipeline.ValueKit

@[expose] public section

set_option maxRecDepth 16384

noncomputable section

namespace Cert.KernelIdeal.Ring

open Cert.KernelIdeal Cert.KernelIdeal.Gen Cert.JsdRing
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat BodyObligation)

variable {F : FTy → Type} [FloatOps F] [Named F]

local notation "𝕄" => MT nD τ sig Unit (Elt F) ℕ (UD sig nD τ) ℕ

variable (m : (ℓ : Loc nD τ sig) → Buf (Elt F) ℓ) (ρ : Dev nD → PrngReg)

/-! ## Names -/

abbrev pM : Memref sig .tc .hbm S8192x4096 .f32 := Memref.whole main_arg0
abbrev wM : Memref sig .tc .hbm S8192x4096 .f32 := Memref.whole main_arg1
abbrev pB : Memref sig .tc .vmem S5x256x4096 .f32 := Memref.whole cc0_scratch0
abbrev wB : Memref sig .tc .vmem S5x256x4096 .f32 := Memref.whole cc0_scratch1
abbrev XP (c : Dev nD) : Buf (Elt F) (pM.view.loc (c : Thread nD τ)) := m ((c : Thread nD τ).loc main_arg0)
abbrev XW (c : Dev nD) : Buf (Elt F) (wM.view.loc (c : Thread nD τ)) := m ((c : Thread nD τ).loc main_arg1)
/-- The kernel's own semaphores: one for each slot of each ring. -/
abbrev osem : Fin 5 ⊕ Fin 5 → SemLoc sig :=
  Sum.elim (fun s => .dma (cell cc0_scratch2 s).sem) (fun s => .dma (cell cc0_scratch3 s).sem)
theorem ownSemFacts : Pipeline.OwnSemFacts spec0 osem := by decide
/-- The arrays the kernel copies from itself. -/
abbrev H : Finset (Ref sig .tc) := {main_arg0, main_arg1}

/-- The scaled total the kernel stores. -/
def total (c : Dev nD) : FVec F S1x1 .f32 := k0_pay3 (accAt (words c pM (XP m c)) (words c wM (XW m c)) 32)

/-! ## The region -/

/-- The region invariant, the same before and after the one point: both rings at rest, the generator register. -/
def Φ (c : Dev nD) : sProp 𝕄 :=
  iprop(restP c pM pB cc0_scratch2 (XP m c) ∗ restP c wM wB cc0_scratch3 (XW m c) ∗ ∃ r, prngReg c r)

def dats (_ : Fin 1) (c : Dev nD) : Dat τ (Elt F) Unit ℕ (UD sig nD τ) ℕ cfg0 c where
  A w := V m c (Pipeline.arrRef spec0 w)
  after w t := match w with
    | ⟨0, _⟩ => total m c
  Φ _ := Φ m c
  q _ := fullShare
  owed _ := 0

theorem after_w0 (c : Dev nD) (t : Fin cfg0.N) : (dats m 0 c).after 0 t = total m c := by dsimp only [dats]

/-- The body table's entry is the kernel on the point's memrefs. -/
theorem defs_tc : (defs₀ (F := F)) .tc cfg0.body
    = fun a => cc0__jsd_ring_kernel (grid0.coords a.1) (Memref.whole main_arg0) (Memref.isWhole_whole _) (Memref.whole main_arg1) (Memref.isWhole_whole _)
        (win0_0.stage (a.2 0)) (hstage0_0 ((a.2 0).cast nbuf0_0)) (Memref.whole cc0_scratch0) (Memref.isWhole_whole _)
        (Memref.whole cc0_scratch1) (Memref.isWhole_whole _) cc0_scratch2 cc0_scratch3 := rfl
theorem prog_eq (t : Fin cfg0.N) : (defs₀ (F := F)) .tc cfg0.body (cfg0.bodyArgs t (cfg0.slots t)) = bodyAt0 t :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  rw [show ((cfg0.win 0).stage (cfg0.slots t 0)).view.set = Finset.univ from (hstage0_0 ((cfg0.slots t 0).cast nbuf0_0)).set_eq_univ]
  iintro ⟨⟨HP, HW, Hr⟩, ⟨%W, -, Ho⟩, ⟨%d, %g, -, Hout⟩⟩
  sl_rw [prog_eq t]
  iapply (body_does (c := c) (XP := XP m c) (XW := XW m c) g _)
  unfold owesP
  isplitl [HP HW Ho Hout]
  · isplitl [HP]; · iexact HP
    isplitl [HW]; · iexact HW
    isplitl [Ho]; · iexists W; iexact Ho
    iexact Hout
  · iintro ⟨HP, HW, ⟨%W', Ho⟩, ⟨%g', %hg, Hout⟩⟩
    isplitl [HP HW Hr]
    · isplitl [HP]; · iexact HP
      isplitl [HW]; · iexact HW
      iexact Hr
    isplitl [Ho]
    · iexists W'; isplitr; · ipureintro; exact fun _ _ => Or.inl trivial
      iexact Ho
    iexists g'; isplitr; · ipureintro; exact hg
    iexact Hout

/-! ## The launch -/

/-- The kernel's own semaphores at zero are the two rings', -/
theorem own_sems (c : Dev nD) : (Pipeline.ownSems0 (Ix := Unit) (Name := ℕ) (U := UD sig nD τ) (Lvl := ℕ) (Val := Elt F) (τ := τ) osem c : sProp 𝕄)
    = iprop(cellP c cc0_scratch2 0 ∗ cellP c cc0_scratch2 1 ∗ cellP c cc0_scratch2 2 ∗ cellP c cc0_scratch2 3 ∗ cellP c cc0_scratch2 4
      ∗ cellP c cc0_scratch3 0 ∗ cellP c cc0_scratch3 1 ∗ cellP c cc0_scratch3 2 ∗ cellP c cc0_scratch3 3 ∗ cellP c cc0_scratch3 4) :=
  bigSep_univ_eq_bigSepL [(Sum.inl 0 : Fin 5 ⊕ Fin 5), Sum.inl 1, Sum.inl 2, Sum.inl 3, Sum.inl 4, Sum.inr 0, Sum.inr 1, Sum.inr 2, Sum.inr 3, Sum.inr 4]
    (by decide) (by decide) _
theorem own_sems_split (c : Dev nD) : (Pipeline.ownSems0 (Ix := Unit) (Name := ℕ) (U := UD sig nD τ) (Lvl := ℕ) (Val := Elt F) (τ := τ) osem c : sProp 𝕄)
    ⊢ iprop(bigSep Finset.univ (fun s : Fin 5 => cellP c cc0_scratch2 s) ∗ bigSep Finset.univ (fun s : Fin 5 => cellP c cc0_scratch3 s)) := by
  rw [own_sems, bigSep_five, bigSep_five]
  iintro ⟨A, B, C, D, E, R⟩
  isplitr [R]
  · isplitl [A]; · iexact A
    isplitl [B]; · iexact B
    isplitl [C]; · iexact C
    isplitl [D]; · iexact D
    iexact E
  · iexact R
/-- and back. -/
theorem own_sems_join (c : Dev nD) :
    iprop(bigSep Finset.univ (fun s : Fin 5 => cellP c cc0_scratch2 s) ∗ bigSep Finset.univ (fun s : Fin 5 => cellP c cc0_scratch3 s))
      ⊢ (Pipeline.ownSems0 (Ix := Unit) (Name := ℕ) (U := UD sig nD τ) (Lvl := ℕ) (Val := Elt F) (τ := τ) osem c : sProp 𝕄) := by
  rw [own_sems, bigSep_five, bigSep_five]
  iintro ⟨⟨A, B, C, D, E⟩, R⟩
  isplitl [A]; · iexact A
  isplitl [B]; · iexact B
  isplitl [C]; · iexact C
  isplitl [D]; · iexact D
  isplitl [E]; · iexact E
  iexact R

/-- The two arrays the kernel copies from. -/
theorem arrays_eq (c : Dev nD) : (bigSep H (fun b => ((c.tc : Thread nD τ).loc b) ↦{fullShare} V m c b) : sProp 𝕄)
    = iprop((pM.view.loc (c : Thread nD τ) ↦{fullShare} XP m c) ∗ (wM.view.loc (c : Thread nD τ) ↦{fullShare} XW m c)) := by
  unfold H
  rw [bigSep_insert (by decide), bigSep_singleton]; rfl

theorem rest_eq (c : Dev nD) (src : Memref sig .tc .hbm S8192x4096 .f32) (buf : Memref sig .tc .vmem S5x256x4096 .f32) (sems : DmaSems sig S5)
    (X : Buf (Elt F) (src.view.loc (c : Thread nD τ))) :
    (restP c src buf sems X : sProp 𝕄) = iprop(homesP c src X Finset.univ ∗ bigSep Finset.univ (fun s => freeP c buf sems s)) := by
  unfold restP; rw [bigSep_five]

/-- What the launch hands the region is the invariant, -/
theorem phi_in (c : Dev nD) : Pipeline.ΦD osem spec0 H (V m) c ⊢ (Φ m c : sProp 𝕄) := by
  rw [Pipeline.ΦD_eq, scopedRest0_eq, arrays_eq]
  unfold Φ
  rw [rest_eq, rest_eq, ← homes_whole c pM (Memref.isWhole_whole _).set_eq_univ, ← homes_whole c wM (Memref.isWhole_whole _).set_eq_univ]
  iintro ⟨⟨⟨%f, HP⟩, ⟨%g, HW⟩⟩, Hr, S, AP, AW⟩
  ihave S' := (own_sems_split c) $$ S
  icases S' with ⟨SP, SW⟩
  isplitl [AP HP SP]
  · isplitl [AP]; · iexact AP
    iapply (frees_of_whole c pB cc0_scratch2 (Memref.isWhole_whole _).set_eq_univ f)
    isplitl [HP]; · iexact HP
    iexact SP
  isplitl [AW HW SW]
  · isplitl [AW]; · iexact AW
    iapply (frees_of_whole c wB cc0_scratch3 (Memref.isWhole_whole _).set_eq_univ g)
    isplitl [HW]; · iexact HW
    iexact SW
  iexact Hr

/-- and the invariant is what it takes back. -/
theorem phi_out (c : Dev nD) : (Φ m c : sProp 𝕄) ⊢ Pipeline.ΦD osem spec0 H (V m) c := by
  rw [Pipeline.ΦD_eq, scopedRest0_eq, arrays_eq]
  unfold Φ
  rw [rest_eq, rest_eq, ← homes_whole c pM (Memref.isWhole_whole _).set_eq_univ, ← homes_whole c wM (Memref.isWhole_whole _).set_eq_univ]
  iintro ⟨⟨AP, FP⟩, ⟨AW, FW⟩, Hr⟩
  ihave FP' := (whole_of_frees c pB cc0_scratch2 (Memref.isWhole_whole _).set_eq_univ (fun _ => Scalar.ofBits .f32 0x00000000#32)) $$ FP
  ihave FW' := (whole_of_frees c wB cc0_scratch3 (Memref.isWhole_whole _).set_eq_univ (fun _ => Scalar.ofBits .f32 0x00000000#32)) $$ FW
  icases FP' with ⟨BP, SP⟩
  icases FW' with ⟨BW, SW⟩
  isplitl [BP BW]
  · isplitl [BP]; · iexact BP
    iexact BW
  isplitl [Hr]; · iexact Hr
  isplitl [SP SW]
  · iapply (own_sems_join c)
    isplitl [SP]; · iexact SP
    iexact SW
  isplitl [AP]; · iexact AP
  iexact AW

/-- The host line after the region touches neither array the kernel copies from. -/
theorem tail_sub : ∀ ops ∈ ([hostOps1] : List (List (HloOp τ sig (Elt F)))), ∀ op ∈ ops,
    op.bufs ⊆ Pipeline.tailRefsBut sig Pipeline.Prefetch.none spec0 H := by
  intro ops hops op hop
  simp only [List.mem_cons, List.mem_nil_iff, or_false] at hops
  subst hops
  refine Pipeline.sub_tailRefsBut _ _ _ op ((List.forall_iff_forall_mem.mp hostOps1_sub) op hop) (fun k => k.elim0) fun b hb => ?_
  simp only [hostOps1, List.mem_cons, List.mem_nil_iff, or_false] at hop
  subst hop
  rw [StableHlo.reshape_bufs]
  simp only [H, Finset.mem_insert, Finset.mem_singleton] at hb ⊢
  rintro (h | h)
  · exact StableHlo.devRef_ne_of_ne (by rcases hb with rfl | rfl <;> decide) h
  · exact StableHlo.devRef_ne_of_ne (by rcases hb with rfl | rfl <;> decide) h

set_option maxHeartbeats 800000 in
/-- The program is its region and then the host line. -/
theorem main_around : Pipeline.HMainK (Ix := Unit) (Name := ℕ) (U := UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [] [hostOps1] (by simp only [List.Forall]) (by simp only [List.Forall]) main_chain

/-- The output's array ends at the scaled total. -/
theorem out_array (c : Dev nD) : (dats m 0 c).arrAt 0 (cfgs 0).N = total m c := by
  refine (dats m 0 c).arrAt_eq_of_after_last 0 t0_0 (by decide +kernel) _ fun j => ?_
  rw [after_w0]
  rfl

/-- The region's exit contents after the host line: the result is the scaled total. -/
theorem result_eq (c : Dev nD) :
    Pipeline.afterTail₀ cfgs (dats m) 0 (V0 m) [hostOps1] c main_v1 = shapeCast S_ (total m c) shapeCasts_S1x1_S_ := by
  unfold Pipeline.afterTail₀
  simp only [hostOps1, List.flatten_cons, List.flatten_nil, List.append_nil, StableHlo.after_cons, StableHlo.after_nil]
  rw [StableHlo.reshape_result]
  show shapeCast S_ (Pipeline.withArrays spec0 c (V0 m c) (fun w => (dats m 0 c).arrAt w (cfgs 0).N) (Proc.devRef .tc main_v0)) shapeCasts_S1x1_S_ = _
  rw [show Pipeline.withArrays spec0 c (V0 m c) (fun w => (dats m 0 c).arrAt w (cfgs 0).N) (Proc.devRef .tc main_v0) = total m c from
    (Pipeline.withArrays_arr spec0 (by decide) c (V0 m c) _ 0).trans (out_array m c)]

/-- An array the host line does not write and no window stages ends as launched. -/
theorem kept_eq (c : Dev nD) (b : Ref sig .tc) (h : b ≠ main_v1) (hw : ∀ w, Pipeline.arrRef spec0 w ≠ b) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne h)),
    Pipeline.withArrays_of_ne _ c (V0 m c) _ b hw]
  rfl

set_option backward.isDefEq.respectTransparency.types false in
/-- From any memory with zero counters every fair execution ends, with both operands as launched, the result the scaled
    total, and every semaphore at zero. -/
theorem run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = shapeCast S_ (total m c) shapeCasts_S1x1_S_) ∧ r.2.sem = fun _ => 0) :=
  Pipeline.θ_run_frame_dma_around cfgs (dats m) 0 launch0 osem defs₀ 𝒱₀ ownSemFacts H (by decide) m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m) (hA := fun _ _ => rfl) (hin := phi_in m) (hout := phi_out m) (Q' := _)
    (hQ' := fun r h => ⟨fun c =>
      ⟨((h.1 c).2 main_arg0 (Pipeline.mem_restRefs_of main_arg0 (by decide) (by decide))).trans (kept_eq m c main_arg0 (by decide) (by decide)),
       ((h.1 c).2 main_arg1 (Pipeline.mem_restRefs_of main_arg1 (by decide) (by decide))).trans (kept_eq m c main_arg1 (by decide) (by decide)),
       ((h.1 c).2 main_v1 (Pipeline.mem_restRefs_of main_v1 (by decide) (by decide))).trans (result_eq m c)⟩, h.2⟩)

end Cert.KernelIdeal.Ring

end
-- ==== Proof.KernelIdealValue.lean ====
/-
  The idealized kernel's value at the extended reals: what its trips add up is every entry's contribution once.
-/
module

public import proofs.«01_k».proof.Proof.Divergence
public import proofs.«01_k».proof.Proof.KernelIdealRun
public import Idealize.ShloMosaic.Lib.ValueIdx
public import Idealize.ShloMosaic.Lib.ValueLayout

@[expose] public section

set_option maxRecDepth 16384

noncomputable section

namespace Cert.KernelIdeal.Jsd

open Cert.KernelIdeal Cert.KernelIdeal.Gen Cert.KernelIdeal.Ring Cert.Jsd Cert.JsdRing
open Idealize.ShloMosaic hiding ix2 ix3 sum_idx2 sum_idx3
open Idealize.ShloMosaic.TcCoe Idealize.ShloMosaic.ValueIdx

/-- A fold that adds `f j` to what is observed at each step adds their sum. -/
theorem foldl_range {α : Type} (obs : α → EReal) (g : α → ℕ → α) (f : ℕ → EReal) (h : ∀ a j, obs (g a j) = obs a + f j) (a : α) :
    ∀ n : ℕ, obs (List.foldl g a (List.range n)) = obs a + ∑ j : Fin n, f j.val
  | 0 => by simp
  | n + 1 => by
    rw [List.range_succ, List.foldl_append, List.foldl_cons, List.foldl_nil, h, foldl_range obs g f h a n, Fin.sum_univ_castSucc, add_assoc]
    rfl

/-- One tile adds its entries' contributions. -/
theorem piece_apply (acc : FVec Ideal S8x1024 .f32) (p w : Vec Ideal S1x8x1024 .f32) (a : Fin 8) (b : Fin 1024) :
    piece acc p w (ix2 a b) = acc (ix2 a b) + fused ((floor : ℝ) : EReal) (w (ix3 0 a b)) (p (ix3 0 a b)) := by
  have hp := shapeCast_1ab_ab_apply p shapeCasts_S1x8x1024_S8x1024 a b
  have hw := shapeCast_1ab_ab_apply w shapeCasts_S1x8x1024_S8x1024 a b
  have hk : Named.named (F := Ideal) κ "ln2" (φ := .f32) 0x3F317218#32 = ((Real.log 2 : ℝ) : EReal) := rfl
  unfold fused
  rw [← hp, ← hw, ← ofBits_floor, ← hk]
  rfl

/-- The entry of a chunk at row `r`, column `q`. -/
theorem tile_entry (w : SChunk.Idx → EReal) (j : Fin 128) (a : Fin 8) (b : Fin 1024) :
    tileOf w (8 * (j.val / 4)) (1024 * (j.val % 4)) (ix3 0 a b)
      = w (ix2 ⟨8 * (j.val / 4) + a.val, by omega⟩ ⟨1024 * (j.val % 4) + b.val, by omega⟩) := by
  unfold tileOf
  congr 1
  refine congrArg₂ ix2 (Fin.ext ?_) (Fin.ext ?_)
  · show (8 * (j.val / 4) + a.val) % 256 = _
    exact Nat.mod_eq_of_lt (by omega)
  · show (1024 * (j.val % 4) + b.val) % 4096 = _
    exact Nat.mod_eq_of_lt (by omega)

/-- What a chunk contributes to the accumulator at row `a`, column `b`. -/
def chunkSum (p w : S256x4096.Idx → EReal) (a : Fin 8) (b : Fin 1024) : EReal :=
  ∑ j : Fin 128, fused ((floor : ℝ) : EReal)
    (w (ix2 ⟨8 * (j.val / 4) + a.val, by omega⟩ ⟨1024 * (j.val % 4) + b.val, by omega⟩))
    (p (ix2 ⟨8 * (j.val / 4) + a.val, by omega⟩ ⟨1024 * (j.val % 4) + b.val, by omega⟩))

/-- One trip adds its chunk's contribution. -/
theorem trip_apply (p w : S256x4096.Idx → EReal) (acc : FVec Ideal S8x1024 .f32) (a : Fin 8) (b : Fin 1024) :
    trip (F := Ideal) p w acc (ix2 a b) = acc (ix2 a b) + chunkSum p w a b := by
  unfold trip chunkSum
  rw [foldl_range (fun v : FVec Ideal S8x1024 .f32 => v (ix2 a b)) _ _ (fun v j => piece_apply v _ _ a b)]
  refine congrArg _ (Finset.sum_congr rfl fun j _ => ?_)
  rw [tile_entry, tile_entry]

/-- After `n` chunks the accumulator holds the sum of their contributions. -/
theorem accAt_apply (p w : Fin 32 → S256x4096.Idx → EReal) (a : Fin 8) (b : Fin 1024) : ∀ n : ℕ,
    accAt (F := Ideal) p w n (ix2 a b)
      = ∑ k : Fin n, chunkSum (p (Idealize.ShloMosaic.Ring.bk 32 k.val)) (w (Idealize.ShloMosaic.Ring.bk 32 k.val)) a b
  | 0 => by
    rw [Fin.sum_univ_zero]
    exact Ideal.ofBits_zero_f32
  | n + 1 => by
    rw [Fin.sum_univ_castSucc]
    show trip (F := Ideal) _ _ (accAt p w n) (ix2 a b) = _
    rw [trip_apply, accAt_apply p w a b n]
    rfl

/-- The stored value is the accumulator's sum, scaled. -/
theorem stored_apply (v : FVec Ideal S8x1024 .f32) (i : S1x1.Idx) :
    k0_pay3 (F := Ideal) v i = (∑ x : Fin 8 × Fin 1024, v (ix2 x.1 x.2)) * ((scale : ℝ) : EReal) := by
  have h := Ideal.multiReduction_add_total (φ := .f32) (shapeCast S1x8x1024 v shapeCasts_S8x1024_S1x8x1024) 0x00000000#32
    reduces_S1x8x1024_S1 (by decide) (.inl rfl) rfl
  rw [← ofBits_scale]
  refine (congrArg (fun y : EReal => y * Ideal.ofBits .f32 0x38B8AA3B#32) (h _)).trans ?_
  rw [Fintype.sum_prod_type, ← sum_idx2 v]
  exact congrArg (fun y : EReal => y * Ideal.ofBits .f32 0x38B8AA3B#32)
    (Equiv.sum_comp (Shape.reshapeEquiv shapeCasts_S8x1024_S1x8x1024) v)

/-- Row `r` of chunk `k` is row `256 k + r` of the array. -/
theorem words_p (m : (ℓ : Loc nD τ sig) → Buf (Elt Ideal) ℓ) (c : Dev nD) (k : Fin 32) (r : Fin 256) (q : Fin 4096) :
    words c pM (XP m c) k (ix2 r q) = m ((c.tc : Thread nD τ).loc main_arg0) (ix2 ⟨256 * k.val + r.val, by omega⟩ q) := by
  unfold words
  refine congrArg (m ((c.tc : Thread nD τ).loc main_arg0)) ?_
  funext d
  match d with
  | ⟨0, _⟩ => exact Fin.ext (by show 256 * k.val + 1 * r.val = 256 * k.val + r.val; omega)
  | ⟨1, _⟩ => exact Fin.ext (by show 0 + 1 * q.val = q.val; omega)

theorem words_w (m : (ℓ : Loc nD τ sig) → Buf (Elt Ideal) ℓ) (c : Dev nD) (k : Fin 32) (r : Fin 256) (q : Fin 4096) :
    words c wM (XW m c) k (ix2 r q) = m ((c.tc : Thread nD τ).loc main_arg1) (ix2 ⟨256 * k.val + r.val, by omega⟩ q) := by
  unfold words
  refine congrArg (m ((c.tc : Thread nD τ).loc main_arg1)) ?_
  funext d
  match d with
  | ⟨0, _⟩ => exact Fin.ext (by show 256 * k.val + 1 * r.val = 256 * k.val + r.val; omega)
  | ⟨1, _⟩ => exact Fin.ext (by show 0 + 1 * q.val = q.val; omega)

/-- The kernel's stored value: every entry's contribution once, scaled. -/
theorem total_eq (m : (ℓ : Loc nD τ sig) → Buf (Elt Ideal) ℓ) (c : Dev nD) (i : S1x1.Idx) :
    total (F := Ideal) m c i = fusedTotal (m ((c.tc : Thread nD τ).loc main_arg0)) (m ((c.tc : Thread nD τ).loc main_arg1)) := by
  have key := sum_tiles (fun a b => fused ((floor : ℝ) : EReal)
      (m ((c.tc : Thread nD τ).loc main_arg1) (ix2 a b)) (m ((c.tc : Thread nD τ).loc main_arg0) (ix2 a b)))
  rw [Fintype.sum_prod_type (α₁ := Fin 8192)] at key
  unfold total fusedTotal
  rw [stored_apply, sum_idx2]
  refine congrArg (fun y : EReal => y * ((scale : ℝ) : EReal)) (Eq.trans (Finset.sum_congr rfl fun x _ => ?_) key)
  rw [accAt_apply, Fintype.sum_prod_type]
  refine Finset.sum_congr rfl fun k _ => ?_
  unfold chunkSum
  refine Finset.sum_congr rfl fun j _ => ?_
  rw [Idealize.ShloMosaic.Ring.bk_eq_mk k.isLt, words_p, words_w]
  rfl

end Cert.KernelIdeal.Jsd

end
-- ==== Proof.ReferenceValue.lean ====
/-
  The reference's value at the extended reals: each entry's contribution, summed over the array, and scaled once.
-/
module

public import proofs.«01_k».proof.Proof.Divergence
public import proofs.«01_k».proof.Proof.Gen.ReferenceIdeal.Run
public import Idealize.ShloMosaic.Lib.ValueIdx

@[expose] public section

set_option maxRecDepth 16384

noncomputable section

namespace Cert.ReferenceIdeal.Jsd

open Cert.ReferenceIdeal Cert.ReferenceIdeal.Gen Cert.Jsd
open Idealize.ShloMosaic Idealize.ShloMosaic.TcCoe Idealize.ShloMosaic.ValueIdx

/-- The reference's one term per entry: masked, and in bits. -/
def terms (x mean : FVec Ideal S33554432 .f32) : FVec Ideal S33554432 .f32 :=
  have mask := andi (cmpf .ogt x (broadcastInDim S33554432 ![] bcast_S_S33554432 (constant S_ .f32 0x00000000#32)))
    (cmpf .ogt mean (broadcastInDim S33554432 ![] bcast_S_S33554432 (constant S_ .f32 0x00000000#32)))
  have one : FVec Ideal S33554432 .f32 := broadcastInDim S33554432 ![] bcast_S_S33554432 (id (constant S_ .f32 0x3F800000#32))
  select mask
    (mulf (mulf x (Host.log (select mask (Host.divf x (select mask mean one)) one)))
      (broadcastInDim S33554432 ![] bcast_S_S33554432 (constant S_ .f32 0x3FB8AA3B#32)))
    (broadcastInDim S33554432 ![] bcast_S_S33554432 (id (constant S_ .f32 0x00000000#32)))

/-- It is the contribution of the entry against the mean, times the factor to bits. -/
theorem terms_apply (x mean : FVec Ideal S33554432 .f32) (i : S33554432.Idx) :
    terms x mean i = against (x i) (mean i) * ((toBits : ℝ) : EReal) := by
  have hmask : IntOp.andi (Ideal.cmp .ogt (x i) (Ideal.ofBits .f32 0x00000000#32)) (Ideal.cmp .ogt (mean i) (Ideal.ofBits .f32 0x00000000#32))
      = BitVec.ofBool (decide (0 < x i ∧ 0 < mean i)) := by
    rw [Ideal.ofBits_zero_f32]
    show IntOp.andi (BitVec.ofBool (decide (0 < x i))) (BitVec.ofBool (decide (0 < mean i))) = _
    by_cases h1 : 0 < x i <;> by_cases h2 : 0 < mean i <;> simp [h1, h2] <;> rfl
  show Scalar.select (IntOp.andi (Ideal.cmp .ogt (x i) (Ideal.ofBits .f32 0x00000000#32)) (Ideal.cmp .ogt (mean i) (Ideal.ofBits .f32 0x00000000#32)))
    (x i * Ideal.log (Scalar.select (IntOp.andi (Ideal.cmp .ogt (x i) (Ideal.ofBits .f32 0x00000000#32)) (Ideal.cmp .ogt (mean i) (Ideal.ofBits .f32 0x00000000#32)))
        (Ideal.div (x i) (Scalar.select (IntOp.andi (Ideal.cmp .ogt (x i) (Ideal.ofBits .f32 0x00000000#32)) (Ideal.cmp .ogt (mean i) (Ideal.ofBits .f32 0x00000000#32)))
          (mean i) (Ideal.ofBits .f32 0x3F800000#32))) (Ideal.ofBits .f32 0x3F800000#32))
      * Ideal.ofBits .f32 0x3FB8AA3B#32) (Ideal.ofBits .f32 0x00000000#32) = _
  rw [hmask, ofBits_toBits]
  unfold against
  by_cases h : 0 < x i ∧ 0 < mean i
  · rw [decide_eq_true h, if_pos h]; rfl
  · rw [decide_eq_false h, if_neg h, zero_mul]
    exact Ideal.ofBits_zero_f32

/-- Flattened, the sum of the terms is the sum of the contributions over the array, times the factor to bits. -/
theorem sum_terms (X M : FVec Ideal S8192x4096 .f32) :
    ∑ i : S33554432.Idx, terms (shapeCast _ X shapeCasts_S8192x4096_S33554432) (shapeCast _ M shapeCasts_S8192x4096_S33554432) i
      = (∑ x : S8192x4096.Idx, against (X x) (M x)) * ((toBits : ℝ) : EReal) := by
  rw [← sum_mul_coe _ _ toBits_nonneg]
  simp only [terms_apply]
  exact Equiv.sum_comp (Shape.reshapeEquiv (s := S8192x4096) (s' := S33554432) (by decide +kernel))
    (fun x => against (X x) (M x) * ((toBits : ℝ) : EReal))

/-- The mean of the two operands, entry by entry. -/
def mean (P W : FVec Ideal S8192x4096 .f32) : FVec Ideal S8192x4096 .f32 :=
  mulf (broadcastInDim S8192x4096 ![] bcast_S_S8192x4096 (constant S_ .f32 0x3F000000#32)) (addf W P)

theorem mean_apply (P W : FVec Ideal S8192x4096 .f32) (x : S8192x4096.Idx) : mean P W x = ((1 / 2 : ℝ) : EReal) * (W x + P x) := by
  show Ideal.ofBits .f32 0x3F000000#32 * (W x + P x) = _
  rw [ofBits_half]

/-- The reference's result: the contributions of both operands against the mean, summed over the array, times the scale. -/
theorem result (m : (ℓ : Loc nD τ sig) → Buf (Elt Ideal) ℓ) (c : Dev nD) :
    Value.res_out0 m c = fun _ => againstTotal (m ((c.tc : Thread nD τ).loc main_arg0)) (m ((c.tc : Thread nD τ).loc main_arg1)) := by
  have key : Value.res_out0 m c = fun j => Ideal.ofBits .f32 0x3F000000#32 *
      (Ideal.div (Ideal.hostReduceAdd reducesTo_S33554432_S_d0 (terms (shapeCast _ (m ((c.tc : Thread nD τ).loc main_arg1)) shapeCasts_S8192x4096_S33554432)
          (shapeCast _ (mean (m ((c.tc : Thread nD τ).loc main_arg0)) (m ((c.tc : Thread nD τ).loc main_arg1))) shapeCasts_S8192x4096_S33554432))
          (Ideal.ofBits .f32 0x00000000#32) j) (Ideal.ofBits .f32 0x46000000#32)
        + Ideal.div (Ideal.hostReduceAdd reducesTo_S33554432_S_d0 (terms (shapeCast _ (m ((c.tc : Thread nD τ).loc main_arg0)) shapeCasts_S8192x4096_S33554432)
          (shapeCast _ (mean (m ((c.tc : Thread nD τ).loc main_arg0)) (m ((c.tc : Thread nD τ).loc main_arg1))) shapeCasts_S8192x4096_S33554432))
          (Ideal.ofBits .f32 0x00000000#32) j) (Ideal.ofBits .f32 0x46000000#32)) := by
    unfold Value.res_out0 Value.res_main_v38
    rfl
  rw [key]
  funext j
  rw [Ideal.hostReduceAdd_total _ (fun b => b.elim0), Ideal.hostReduceAdd_total _ (fun b => b.elim0), sum_terms, sum_terms,
    Ideal.ofBits_zero_f32, zero_add, zero_add, ofBits_rows, ofBits_half, scale_split]
  unfold againstTotal
  rw [Finset.sum_add_distrib]
  simp only [mean_apply]

end Cert.ReferenceIdeal.Jsd

end
-- ==== Proof.Agreement.lean ====
/-
  The idealized kernel and the reference, at extended reals, end with one result wherever every entry of both operands
  is zero or not below the kernel's floor.
-/
module

public import proofs.«01_k».proof.Defs
public import proofs.«01_k».proof.Proof.Gen.Pre_zero_or_not_tiny
public import proofs.«01_k».proof.Proof.KernelIdealValue
public import proofs.«01_k».proof.Proof.ReferenceValue
public import Idealize.ShloMosaic.Lib.Affine
public import Idealize.ShloMosaic.Lib.WordCmp

@[expose] public section

noncomputable section

namespace Cert.Agreement

open Idealize.ShloMosaic Cert.Jsd

/-- One entry's test: equal to zero, or not below the floor. -/
theorem entry_test {x : EReal}
    (h : IntOp.ori (Ideal.cmp .oeq x (Ideal.ofBits .f32 0x00000000#32)) (Ideal.cmp .oge x (Ideal.ofBits .f32 0x0DA24260#32)) = 1#1) :
    x = 0 ∨ ((floor : ℝ) : EReal) ≤ x := by
  rw [Ideal.ofBits_zero_f32, ofBits_floor] at h
  refine (IntOp.ori_eq_one.mp h).imp (fun h => ?_) (fun h => ?_)
  · exact of_decide_eq_true ((WordCmp.ofBool_eq_one_iff _).mp h)
  · exact of_decide_eq_true ((WordCmp.ofBool_eq_one_iff _).mp h)

/-- What the precondition says of the operands' entries. -/
theorem entries (P W : (⟨2, ![8192, 4096]⟩ : Shape).Idx → EReal) (h : Cert.Pre_zero_or_not_tiny.fn (F := Ideal) P W = fun _ => 1#1)
    (x : (⟨2, ![8192, 4096]⟩ : Shape).Idx) : (P x = 0 ∨ ((floor : ℝ) : EReal) ≤ P x) ∧ (W x = 0 ∨ ((floor : ℝ) : EReal) ≤ W x) :=
  have hx := IntOp.andi_eq_one.mp (congrFun h x)
  ⟨entry_test hx.1, entry_test hx.2⟩

/-- Under the precondition both run and end with one result, their operands as given. -/
theorem algebraic : Cert.algebraic_KernelIdeal_ReferenceIdeal_pre_zero_or_not_tiny := by
  intro m g m' g' hpre hargs
  refine ⟨fun c _ => againstTotal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Ring.run (F := Ideal) m g)
    obtain ⟨h0, h1, h2⟩ := h.1 c
    refine ⟨h2.trans ?_, h0, h1⟩
    funext j
    exact (Cert.KernelIdeal.Jsd.total_eq m c _).trans (totals_eq _ _ (entries _ _ (hpre c)))
  · refine (θ_run Cert.ReferenceIdeal.defs _ _).mono (fun r h c => ?_) (Cert.ReferenceIdeal.Value.run (F := Ideal) m' g')
    obtain ⟨h2, h0, h1⟩ := h c
    refine ⟨h2.trans ((Cert.ReferenceIdeal.Jsd.result m' c).trans ?_), h0, h1⟩
    rw [(hargs c).1, (hargs c).2]
    rfl

end Cert.Agreement

end
-- ==== Proof.lean ====
/-
  The claims of this directory: each program runs, gives its operands back and leaves every semaphore at zero; the
  idealized kernel is the kernel with its constant ln 2 named; and at extended reals the idealized kernel and the
  reference end with one result, where every entry of the operands is zero or not below the kernel's floor.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_zero_or_not_tiny
public import proofs.«01_k».proof.Proof.Agreement
public import proofs.«01_k».proof.Proof.KernelRun
public import proofs.«01_k».proof.Proof.KernelIdealRun
public import Idealize.ShloMosaic.Adequacy
public import Idealize.ShloMosaic.Init

@[expose] public section

noncomputable section

namespace Cert.Proof

open Idealize.ShloMosaic Idealize.SL.Sem

/-- The kernel gives its operands back and leaves every semaphore at zero. -/
theorem frame_kernel : Cert.quiescent_Kernel := fun m g _ =>
  (θ_run Cert.Kernel.defs _ _).mono (fun _ h => ⟨fun c => ⟨(h.1 c).1, (h.1 c).2.1⟩, h.2⟩) (Cert.Kernel.Ring.run m g)

/-- The idealized kernel likewise, at extended reals. -/
theorem frame_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩) (Cert.KernelIdeal.Ring.run m g)

/-- The reference has no semaphores, and its operations write neither operand. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The one constant named, ln 2, is the real logarithm of 2 at extended reals. -/
theorem named : Cert.preserves_Kernel_KernelIdeal :=
  IdealRules.named_const.statement Cert.KernelIdeal.κ "ln2" .f32 0x3F317218#32 ((Real.log 2 : ℝ) : EReal) rfl

/-- Everything claimed. -/
theorem claim : Cert.Claim :=
  ⟨Cert.Kernel.Gen.facts, Cert.KernelIdeal.Gen.facts, Cert.ReferenceIdeal.Gen.facts, Cert.Pre_zero_or_not_tiny.Gen.facts, frame_kernel,
    fun m g _ => frame_ideal m g, fun m g _ => frame_ideal m g, fun m g _ => frame_reference m g, fun m g _ => frame_reference m g,
    named, Cert.Agreement.algebraic⟩

end Cert.Proof

end
